-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_finite_inputs [hPre_finite_inputs : Cert.Pre_finite_inputs.Facts] (m : (ℓ : Loc Cert.NearestIdeal.nD Cert.NearestIdeal.τ Cert.NearestIdeal.sig) → Buf (Elt Ideal) ℓ) : Prop :=
  ∀ c : Dev Cert.NearestIdeal.nD,
    (Cert.Pre_finite_inputs.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1))) = (fun _ => 1#1)

def Pre_NearestReferenceIdeal (m : (ℓ : Loc Cert.NearestReferenceIdeal.nD Cert.NearestReferenceIdeal.τ Cert.NearestReferenceIdeal.sig) → Buf (Elt Ideal) ℓ) : Prop :=
  True

def Pre_NearestReferenceIdeal_finite_inputs [hPre_finite_inputs : Cert.Pre_finite_inputs.Facts] (m : (ℓ : Loc Cert.NearestReferenceIdeal.nD Cert.NearestReferenceIdeal.τ Cert.NearestReferenceIdeal.sig) → Buf (Elt Ideal) ℓ) : Prop :=
  ∀ c : Dev Cert.NearestReferenceIdeal.nD,
    (Cert.Pre_finite_inputs.fn (F := Ideal) (m ((c.tc : Thread Cert.NearestReferenceIdeal.nD Cert.NearestReferenceIdeal.τ).loc Cert.NearestReferenceIdeal.main_arg0)) (m ((c.tc : Thread Cert.NearestReferenceIdeal.nD Cert.NearestReferenceIdeal.τ).loc Cert.NearestReferenceIdeal.main_arg1))) = (fun _ => 1#1)

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextIdeal_finite_rows [hPre_finite_rows : Cert.Pre_finite_rows.Facts] (m : (ℓ : Loc Cert.NextIdeal.nD Cert.NextIdeal.τ Cert.NextIdeal.sig) → Buf (Elt Ideal) ℓ) : Prop :=
  ∀ c : Dev Cert.NextIdeal.nD,
    (Cert.Pre_finite_rows.fn (F := Ideal) (m ((c.tc : Thread Cert.NextIdeal.nD Cert.NextIdeal.τ).loc Cert.NextIdeal.main_arg0)) (m ((c.tc : Thread Cert.NextIdeal.nD Cert.NextIdeal.τ).loc Cert.NextIdeal.main_arg1)) (m ((c.tc : Thread Cert.NextIdeal.nD Cert.NextIdeal.τ).loc Cert.NextIdeal.main_arg2))) = (fun _ => 1#1)

def Pre_NextReferenceIdeal (m : (ℓ : Loc Cert.NextReferenceIdeal.nD Cert.NextReferenceIdeal.τ Cert.NextReferenceIdeal.sig) → Buf (Elt Ideal) ℓ) : Prop :=
  True

def Pre_NextReferenceIdeal_finite_rows [hPre_finite_rows : Cert.Pre_finite_rows.Facts] (m : (ℓ : Loc Cert.NextReferenceIdeal.nD Cert.NextReferenceIdeal.τ Cert.NextReferenceIdeal.sig) → Buf (Elt Ideal) ℓ) : Prop :=
  ∀ c : Dev Cert.NextReferenceIdeal.nD,
    (Cert.Pre_finite_rows.fn (F := Ideal) (m ((c.tc : Thread Cert.NextReferenceIdeal.nD Cert.NextReferenceIdeal.τ).loc Cert.NextReferenceIdeal.main_arg0)) (m ((c.tc : Thread Cert.NextReferenceIdeal.nD Cert.NextReferenceIdeal.τ).loc Cert.NextReferenceIdeal.main_arg1)) (m ((c.tc : Thread Cert.NextReferenceIdeal.nD Cert.NextReferenceIdeal.τ).loc Cert.NextReferenceIdeal.main_arg2))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestIdeal_pre_finite_inputs [hNearestIdeal : Cert.NearestIdeal.Facts] [hPre_finite_inputs : Cert.Pre_finite_inputs.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite_inputs m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestReferenceIdeal [hNearestReferenceIdeal : Cert.NearestReferenceIdeal.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def quiescent_NearestReferenceIdeal_pre_finite_inputs [hNearestReferenceIdeal : Cert.NearestReferenceIdeal.Facts] [hPre_finite_inputs : Cert.Pre_finite_inputs.Facts] : Prop :=
  ∀ (m : (ℓ : Loc Cert.NearestReferenceIdeal.nD Cert.NearestReferenceIdeal.τ Cert.NearestReferenceIdeal.sig) → Buf (Elt Ideal) ℓ) (g : Dev Cert.NearestReferenceIdeal.nD → PrngReg), Pre_NearestReferenceIdeal_finite_inputs m →
    θ_run (Cert.NearestReferenceIdeal.defs (F := Ideal)) (onTc (τ := Cert.NearestReferenceIdeal.τ) (Cert.NearestReferenceIdeal.main (F := Ideal))) ⟨m, fun _ => 0, g⟩ (fun r => (∀ c : Dev Cert.NearestReferenceIdeal.nD,
      r.2.mem ((c.tc : Thread Cert.NearestReferenceIdeal.nD Cert.NearestReferenceIdeal.τ).loc Cert.NearestReferenceIdeal.main_arg0) = m ((c.tc : Thread Cert.NearestReferenceIdeal.nD Cert.NearestReferenceIdeal.τ).loc Cert.NearestReferenceIdeal.main_arg0)
      ∧ r.2.mem ((c.tc : Thread Cert.NearestReferenceIdeal.nD Cert.NearestReferenceIdeal.τ).loc Cert.NearestReferenceIdeal.main_arg1) = m ((c.tc : Thread Cert.NearestReferenceIdeal.nD Cert.NearestReferenceIdeal.τ).loc Cert.NearestReferenceIdeal.main_arg1))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2))
      ∧ r.2.sem = fun _ => 0)

def quiescent_NextIdeal_pre_finite_rows [hNextIdeal : Cert.NextIdeal.Facts] [hPre_finite_rows : Cert.Pre_finite_rows.Facts] : Prop :=
  ∀ (m : (ℓ : Loc Cert.NextIdeal.nD Cert.NextIdeal.τ Cert.NextIdeal.sig) → Buf (Elt Ideal) ℓ) (g : Dev Cert.NextIdeal.nD → PrngReg), Pre_NextIdeal_finite_rows m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2))
      ∧ r.2.sem = fun _ => 0)

def quiescent_NextReferenceIdeal [hNextReferenceIdeal : Cert.NextReferenceIdeal.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2))
      ∧ r.2.sem = fun _ => 0)

def quiescent_NextReferenceIdeal_pre_finite_rows [hNextReferenceIdeal : Cert.NextReferenceIdeal.Facts] [hPre_finite_rows : Cert.Pre_finite_rows.Facts] : Prop :=
  ∀ (m : (ℓ : Loc Cert.NextReferenceIdeal.nD Cert.NextReferenceIdeal.τ Cert.NextReferenceIdeal.sig) → Buf (Elt Ideal) ℓ) (g : Dev Cert.NextReferenceIdeal.nD → PrngReg), Pre_NextReferenceIdeal_finite_rows m →
    θ_run (Cert.NextReferenceIdeal.defs (F := Ideal)) (onTc (τ := Cert.NextReferenceIdeal.τ) (Cert.NextReferenceIdeal.main (F := Ideal))) ⟨m, fun _ => 0, g⟩ (fun r => (∀ c : Dev Cert.NextReferenceIdeal.nD,
      r.2.mem ((c.tc : Thread Cert.NextReferenceIdeal.nD Cert.NextReferenceIdeal.τ).loc Cert.NextReferenceIdeal.main_arg0) = m ((c.tc : Thread Cert.NextReferenceIdeal.nD Cert.NextReferenceIdeal.τ).loc Cert.NextReferenceIdeal.main_arg0)
      ∧ r.2.mem ((c.tc : Thread Cert.NextReferenceIdeal.nD Cert.NextReferenceIdeal.τ).loc Cert.NextReferenceIdeal.main_arg1) = m ((c.tc : Thread Cert.NextReferenceIdeal.nD Cert.NextReferenceIdeal.τ).loc Cert.NextReferenceIdeal.main_arg1)
      ∧ r.2.mem ((c.tc : Thread Cert.NextReferenceIdeal.nD Cert.NextReferenceIdeal.τ).loc Cert.NextReferenceIdeal.main_arg2) = m ((c.tc : Thread Cert.NextReferenceIdeal.nD Cert.NextReferenceIdeal.τ).loc Cert.NextReferenceIdeal.main_arg2))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Nearest_NearestIdeal : Prop :=
  True

def algebraic_NearestIdeal_NearestReferenceIdeal_pre_finite_inputs [hNearestIdeal : Cert.NearestIdeal.Facts] [hNearestReferenceIdeal : Cert.NearestReferenceIdeal.Facts] [hPre_finite_inputs : Cert.Pre_finite_inputs.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestReferenceIdeal.nD Cert.NearestReferenceIdeal.τ Cert.NearestReferenceIdeal.sig) → Buf (Elt Ideal) ℓ) (g' : Dev Cert.NearestReferenceIdeal.nD → PrngReg), Pre_NearestIdeal_finite_inputs m →
    (∀ c : Dev Cert.NearestIdeal.nD,
      m' ((c.tc : Thread Cert.NearestReferenceIdeal.nD Cert.NearestReferenceIdeal.τ).loc Cert.NearestReferenceIdeal.main_arg0) = m ((c.tc : Thread Cert.NearestIdeal.nD Cert.NearestIdeal.τ).loc Cert.NearestIdeal.main_arg0)
      ∧ m' ((c.tc : Thread Cert.NearestReferenceIdeal.nD Cert.NearestReferenceIdeal.τ).loc Cert.NearestReferenceIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v6_0)) (v1 : (c : Dev Cert.NearestIdeal.nD) → Buf (Elt Ideal) ((c.tc : Thread Cert.NearestIdeal.nD Cert.NearestIdeal.τ).loc Cert.NearestIdeal.main_v6_1)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v6_0) = v0 c
          ∧ r.2.mem ((c.tc : Thread Cert.NearestIdeal.nD Cert.NearestIdeal.τ).loc Cert.NearestIdeal.main_v6_1) = v1 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.NearestReferenceIdeal.defs (F := Ideal)) (onTc (τ := Cert.NearestReferenceIdeal.τ) (Cert.NearestReferenceIdeal.main (F := Ideal))) ⟨m', fun _ => 0, g'⟩ (fun r => ∀ c : Dev Cert.NearestReferenceIdeal.nD,
          r.2.mem ((c.tc : Thread Cert.NearestReferenceIdeal.nD Cert.NearestReferenceIdeal.τ).loc Cert.NearestReferenceIdeal.main_v17) = v0 c
          ∧ r.2.mem ((c.tc : Thread Cert.NearestReferenceIdeal.nD Cert.NearestReferenceIdeal.τ).loc Cert.NearestReferenceIdeal.main_v19) = v1 c
          ∧ r.2.mem ((c.tc : Thread Cert.NearestReferenceIdeal.nD Cert.NearestReferenceIdeal.τ).loc Cert.NearestReferenceIdeal.main_arg0) = m' ((c.tc : Thread Cert.NearestReferenceIdeal.nD Cert.NearestReferenceIdeal.τ).loc Cert.NearestReferenceIdeal.main_arg0)
          ∧ r.2.mem ((c.tc : Thread Cert.NearestReferenceIdeal.nD Cert.NearestReferenceIdeal.τ).loc Cert.NearestReferenceIdeal.main_arg1) = m' ((c.tc : Thread Cert.NearestReferenceIdeal.nD Cert.NearestReferenceIdeal.τ).loc Cert.NearestReferenceIdeal.main_arg1))

def preserves_Next_NextIdeal : Prop :=
  True

def algebraic_NextIdeal_NextReferenceIdeal_pre_finite_rows [hNextIdeal : Cert.NextIdeal.Facts] [hNextReferenceIdeal : Cert.NextReferenceIdeal.Facts] [hPre_finite_rows : Cert.Pre_finite_rows.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextReferenceIdeal.nD Cert.NextReferenceIdeal.τ Cert.NextReferenceIdeal.sig) → Buf (Elt Ideal) ℓ) (g' : Dev Cert.NextReferenceIdeal.nD → PrngReg), Pre_NextIdeal_finite_rows m →
    (∀ c : Dev Cert.NextIdeal.nD,
      m' ((c.tc : Thread Cert.NextReferenceIdeal.nD Cert.NextReferenceIdeal.τ).loc Cert.NextReferenceIdeal.main_arg0) = m ((c.tc : Thread Cert.NextIdeal.nD Cert.NextIdeal.τ).loc Cert.NextIdeal.main_arg0)
      ∧ m' ((c.tc : Thread Cert.NextReferenceIdeal.nD Cert.NextReferenceIdeal.τ).loc Cert.NextReferenceIdeal.main_arg1) = m ((c.tc : Thread Cert.NextIdeal.nD Cert.NextIdeal.τ).loc Cert.NextIdeal.main_arg1)
      ∧ m' ((c.tc : Thread Cert.NextReferenceIdeal.nD Cert.NextReferenceIdeal.τ).loc Cert.NextReferenceIdeal.main_arg2) = m ((c.tc : Thread Cert.NextIdeal.nD Cert.NextIdeal.τ).loc Cert.NextIdeal.main_arg2)) →
    ∃ (v0 : (c : Dev Cert.NextIdeal.nD) → Buf (Elt Ideal) ((c.tc : Thread Cert.NextIdeal.nD Cert.NextIdeal.τ).loc Cert.NextIdeal.main_v5_0)) (v1 : (c : Dev Cert.NextIdeal.nD) → Buf (Elt Ideal) ((c.tc : Thread Cert.NextIdeal.nD Cert.NextIdeal.τ).loc Cert.NextIdeal.main_v5_1)) (v2 : (c : Dev Cert.NextIdeal.nD) → Buf (Elt Ideal) ((c.tc : Thread Cert.NextIdeal.nD Cert.NextIdeal.τ).loc Cert.NextIdeal.main_v5_2)) (v3 : (c : Dev Cert.NextIdeal.nD) → Buf (Elt Ideal) ((c.tc : Thread Cert.NextIdeal.nD Cert.NextIdeal.τ).loc Cert.NextIdeal.main_v5_3)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v5_0) = v0 c
          ∧ r.2.mem ((c.tc : Thread Cert.NextIdeal.nD Cert.NextIdeal.τ).loc Cert.NextIdeal.main_v5_1) = v1 c
          ∧ r.2.mem ((c.tc : Thread Cert.NextIdeal.nD Cert.NextIdeal.τ).loc Cert.NextIdeal.main_v5_2) = v2 c
          ∧ r.2.mem ((c.tc : Thread Cert.NextIdeal.nD Cert.NextIdeal.τ).loc Cert.NextIdeal.main_v5_3) = v3 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2))
      ∧ θ_run (Cert.NextReferenceIdeal.defs (F := Ideal)) (onTc (τ := Cert.NextReferenceIdeal.τ) (Cert.NextReferenceIdeal.main (F := Ideal))) ⟨m', fun _ => 0, g'⟩ (fun r => ∀ c : Dev Cert.NextReferenceIdeal.nD,
          r.2.mem ((c.tc : Thread Cert.NextReferenceIdeal.nD Cert.NextReferenceIdeal.τ).loc Cert.NextReferenceIdeal.main_v0) = v0 c
          ∧ r.2.mem ((c.tc : Thread Cert.NextReferenceIdeal.nD Cert.NextReferenceIdeal.τ).loc Cert.NextReferenceIdeal.main_v18) = v1 c
          ∧ r.2.mem ((c.tc : Thread Cert.NextReferenceIdeal.nD Cert.NextReferenceIdeal.τ).loc Cert.NextReferenceIdeal.main_v20) = v2 c
          ∧ r.2.mem ((c.tc : Thread Cert.NextReferenceIdeal.nD Cert.NextReferenceIdeal.τ).loc Cert.NextReferenceIdeal.main_v23) = v3 c
          ∧ r.2.mem ((c.tc : Thread Cert.NextReferenceIdeal.nD Cert.NextReferenceIdeal.τ).loc Cert.NextReferenceIdeal.main_arg0) = m' ((c.tc : Thread Cert.NextReferenceIdeal.nD Cert.NextReferenceIdeal.τ).loc Cert.NextReferenceIdeal.main_arg0)
          ∧ r.2.mem ((c.tc : Thread Cert.NextReferenceIdeal.nD Cert.NextReferenceIdeal.τ).loc Cert.NextReferenceIdeal.main_arg1) = m' ((c.tc : Thread Cert.NextReferenceIdeal.nD Cert.NextReferenceIdeal.τ).loc Cert.NextReferenceIdeal.main_arg1)
          ∧ r.2.mem ((c.tc : Thread Cert.NextReferenceIdeal.nD Cert.NextReferenceIdeal.τ).loc Cert.NextReferenceIdeal.main_arg2) = m' ((c.tc : Thread Cert.NextReferenceIdeal.nD Cert.NextReferenceIdeal.τ).loc Cert.NextReferenceIdeal.main_arg2))

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)) →
    ∃ (v0 : (c : Dev Cert.FinishIdeal.nD) → Buf (Elt Ideal) ((c.tc : Thread Cert.FinishIdeal.nD Cert.FinishIdeal.τ).loc Cert.FinishIdeal.main_v0_0)) (v1 : (c : Dev Cert.FinishIdeal.nD) → Buf (Elt Ideal) ((c.tc : Thread Cert.FinishIdeal.nD Cert.FinishIdeal.τ).loc Cert.FinishIdeal.main_v0_1)) (v2 : (c : Dev Cert.FinishIdeal.nD) → Buf (Elt Ideal) ((c.tc : Thread Cert.FinishIdeal.nD Cert.FinishIdeal.τ).loc Cert.FinishIdeal.main_v0_2)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0_0) = v0 c
          ∧ r.2.mem ((c.tc : Thread Cert.FinishIdeal.nD Cert.FinishIdeal.τ).loc Cert.FinishIdeal.main_v0_1) = v1 c
          ∧ r.2.mem ((c.tc : Thread Cert.FinishIdeal.nD Cert.FinishIdeal.τ).loc Cert.FinishIdeal.main_v0_2) = v2 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v22) = v0 c
          ∧ r.2.mem ((c.tc : Thread Cert.FinishReferenceIdeal.nD Cert.FinishReferenceIdeal.τ).loc Cert.FinishReferenceIdeal.main_v23) = v1 c
          ∧ r.2.mem ((c.tc : Thread Cert.FinishReferenceIdeal.nD Cert.FinishReferenceIdeal.τ).loc Cert.FinishReferenceIdeal.main_v24) = v2 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4))

def Claim : Prop :=
  ∃ (hKernel : Cert.Kernel.Facts) (hKernelIdeal : Cert.KernelIdeal.Facts) (hReferenceIdeal : Cert.ReferenceIdeal.Facts) (hNearest : Cert.Nearest.Facts) (hNearestIdeal : Cert.NearestIdeal.Facts) (hNearestReferenceIdeal : Cert.NearestReferenceIdeal.Facts) (hNext : Cert.Next.Facts) (hNextIdeal : Cert.NextIdeal.Facts) (hNextReferenceIdeal : Cert.NextReferenceIdeal.Facts) (hFinish : Cert.Finish.Facts) (hFinishIdeal : Cert.FinishIdeal.Facts) (hFinishReferenceIdeal : Cert.FinishReferenceIdeal.Facts) (hPre_idx_in_range : Cert.Pre_idx_in_range.Facts) (hPre_finite_inputs : Cert.Pre_finite_inputs.Facts) (hPre_finite_rows : Cert.Pre_finite_rows.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_Nearest (hNearest := hNearest)
    ∧ quiescent_NearestIdeal (hNearestIdeal := hNearestIdeal)
    ∧ quiescent_NearestIdeal_pre_finite_inputs (hNearestIdeal := hNearestIdeal) (hPre_finite_inputs := hPre_finite_inputs)
    ∧ quiescent_NearestReferenceIdeal (hNearestReferenceIdeal := hNearestReferenceIdeal)
    ∧ quiescent_NearestReferenceIdeal_pre_finite_inputs (hNearestReferenceIdeal := hNearestReferenceIdeal) (hPre_finite_inputs := hPre_finite_inputs)
    ∧ quiescent_Next (hNext := hNext)
    ∧ quiescent_NextIdeal (hNextIdeal := hNextIdeal)
    ∧ quiescent_NextIdeal_pre_finite_rows (hNextIdeal := hNextIdeal) (hPre_finite_rows := hPre_finite_rows)
    ∧ quiescent_NextReferenceIdeal (hNextReferenceIdeal := hNextReferenceIdeal)
    ∧ quiescent_NextReferenceIdeal_pre_finite_rows (hNextReferenceIdeal := hNextReferenceIdeal) (hPre_finite_rows := hPre_finite_rows)
    ∧ quiescent_Finish (hFinish := hFinish)
    ∧ quiescent_FinishIdeal (hFinishIdeal := hFinishIdeal)
    ∧ quiescent_FinishReferenceIdeal (hFinishReferenceIdeal := hFinishReferenceIdeal)
    ∧ preserves_Kernel_KernelIdeal
    ∧ algebraic_KernelIdeal_ReferenceIdeal (hKernelIdeal := hKernelIdeal) (hReferenceIdeal := hReferenceIdeal) (hPre_idx_in_range := hPre_idx_in_range)
    ∧ preserves_Nearest_NearestIdeal
    ∧ algebraic_NearestIdeal_NearestReferenceIdeal_pre_finite_inputs (hNearestIdeal := hNearestIdeal) (hNearestReferenceIdeal := hNearestReferenceIdeal) (hPre_finite_inputs := hPre_finite_inputs)
    ∧ preserves_Next_NextIdeal
    ∧ algebraic_NextIdeal_NextReferenceIdeal_pre_finite_rows (hNextIdeal := hNextIdeal) (hNextReferenceIdeal := hNextReferenceIdeal) (hPre_finite_rows := hPre_finite_rows)
    ∧ preserves_Finish_FinishIdeal
    ∧ algebraic_FinishIdeal_FinishReferenceIdeal (hFinishIdeal := hFinishIdeal) (hFinishReferenceIdeal := hFinishReferenceIdeal)
-- ==== Pre_finite_inputs.lean ====
abbrev S32x1024x64 : Shape := ⟨3, ![32, 1024, 64]⟩
abbrev S1024x64 : Shape := ⟨2, ![1024, 64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32x1024x64 .f32) (main_arg1 : FVec F S1024x64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Pre_finite_rows.lean ====
abbrev S16384x128 : Shape := ⟨2, ![16384, 128]⟩
abbrev S1024x64 : Shape := ⟨2, ![1024, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16384x128 .f32) (main_arg1 : FVec F S16384x128 .f32) (main_arg2 : FVec F S1024x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  main_v13
-- ==== Pre_idx_in_range.lean ====
abbrev S1024x64 : Shape := ⟨2, ![1024, 64]⟩
abbrev S256x128 : Shape := ⟨2, ![256, 128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel

variable [Facts]

def fn {F : FTy → Type} [FloatOps F] (main_arg0 : FVec F S1024x64 .f32) (main_arg1 : IVec S256x128 32) : IVec S_ 1 :=
  let main_c : IVec S_ 32 := constantI S_ 32 0#32
  let main_v0 : IVec S256x128 32 := broadcastInDim S256x128 ![] bcast_S_S256x128 main_c
  let main_v1 : IVec S256x128 1 := cmpi .sge main_arg1 main_v0
  let main_c_0 : IVec S_ 32 := constantI S_ 32 1024#32
  let main_v2 : IVec S256x128 32 := broadcastInDim S256x128 ![] bcast_S_S256x128 main_c_0
  let main_v3 : IVec S256x128 1 := cmpi .slt main_arg1 main_v2
  let main_v4 : IVec S256x128 1 := andi main_v1 main_v3
  let main_c_1 : IVec S_ 1 := constantI S_ 1 1#1
  let main_v5 : IVec S_ 1 := (fun x v => Host.reduce IntOp.andi x v reducesTo_S256x128_S_d0_1 h_S_) main_v4 main_c_1
  main_v5
-- ==== Kernel.lean ====
abbrev S1024x64 : Shape := ⟨2, ![1024, 64]⟩
abbrev S256x128 : Shape := ⟨2, ![256, 128]⟩
abbrev S_ : Shape := ⟨0, ![]⟩
abbrev S1024x128 : Shape := ⟨2, ![1024, 128]⟩
abbrev S32768x128 : Shape := ⟨2, ![32768, 128]⟩
abbrev S32x1024 : Shape := ⟨2, ![32, 1024]⟩
abbrev S8x128 : Shape := ⟨2, ![8, 128]⟩
abbrev S1024 : Shape := ⟨1, ![1024]⟩
abbrev S128x128 : Shape := ⟨2, ![128, 128]⟩
abbrev S1x128 : Shape := ⟨2, ![1, 128]⟩
abbrev S128 : Shape := ⟨1, ![128]⟩
abbrev S16 : Shape := ⟨1, ![16]⟩
abbrev S1x16 : Shape := ⟨2, ![1, 16]⟩
abbrev S1x1024 : Shape := ⟨2, ![1, 1024]⟩
abbrev S32768x64 : Shape := ⟨2, ![32768, 64]⟩

abbrev nBuf : Table → Nat
  | .hbm => 8
  | .local .scVector .vmem => 3
  | _ => 0

abbrev bufTy : (tb : Table) → Fin (nBuf tb) → BufTy
  | .hbm, ⟨0, _⟩ => ⟨S1024x64, .f32⟩
  | .hbm, ⟨1, _⟩ => ⟨S256x128, .i32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S32768x128, .f32⟩
  | .hbm, ⟨6, _⟩ => ⟨S32x1024, .f32⟩
  | .hbm, ⟨7, _⟩ => ⟨S32768x64, .f32⟩
  | .local .scVector .vmem, ⟨0, _⟩ => ⟨S8x128, .i32⟩
  | .local .scVector .vmem, ⟨1, _⟩ => ⟨S1024x128, .f32⟩
  | .local .scVector .vmem, ⟨2, _⟩ => ⟨S1024, .f32⟩
  | _, _ => ⟨S1024x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v0_scv : Ref sig .scVector := ⟨.hbm, 4, rfl⟩
abbrev main_arg1_scv : Ref sig .scVector := ⟨.hbm, 1, rfl⟩
abbrev main_v1_0_scv : Ref sig .scVector := ⟨.hbm, 5, rfl⟩
abbrev main_v1_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_207_r0 : BitVec 32 := 0#32
  ![v2.toNat, 0]
@[reducible] def k0_t1_loop : Scf.Loop 32 :=
  let c0_i32_35 : BitVec 32 := 0#32
  let c64_i32 : BitVec 32 := 64#32
  let v36 : BitVec 32 := Scalar.addi c0_i32_35 c64_i32
  let c1_i32_36 : BitVec 32 := 1#32
  ⟨c0_i32_35, v36, c1_i32_36⟩
def k0_off2 (k0_t1 : Fin k0_t1_loop.trips) : Fin 1 → Nat :=
  let c0_i32_35 : BitVec 32 := 0#32
  let c1_i32_36 : BitVec 32 := 1#32
  let arg10 : BitVec 32 := Scf.iv c0_i32_35 c1_i32_36 k0_t1
  let c16_i32 : BitVec 32 := 16#32
  let v200 : BitVec 32 := Scalar.muli arg10 c16_i32
  let v201 : Index := Scalar.indexCast v200
  ![v201.toNat]

def k0_chk1 (v40 : IVec S16 32) : Prop :=
  (∀ a x, ((![v40] : Fin 1 → IVec S16 32) a x).toNat < S1024.size a)
theorem k0_idx1_inb : ∀ (v40 : IVec S16 32) (k0_hw1 : k0_chk1 v40), ∀ a x, ((![v40] : Fin 1 → IVec S16 32) a x).toNat < S1024.size a := fun v40 k0_hw1 => k0_hw1

def k0_chk2 (v42 : IVec S16 32) : Prop :=
  (∀ a x, ((![v42] : Fin 1 → IVec S16 32) a x).toNat < S1024.size a)
theorem k0_idx2_inb : ∀ (v42 : IVec S16 32) (k0_hw2 : k0_chk2 v42), ∀ a x, ((![v42] : Fin 1 → IVec S16 32) a x).toNat < S1024.size a := fun v42 k0_hw2 => k0_hw2

def k0_chk3 (v44 : IVec S16 32) : Prop :=
  (∀ a x, ((![v44] : Fin 1 → IVec S16 32) a x).toNat < S1024.size a)
theorem k0_idx3_inb : ∀ (v44 : IVec S16 32) (k0_hw3 : k0_chk3 v44), ∀ a x, ((![v44] : Fin 1 → IVec S16 32) a x).toNat < S1024.size a := fun v44 k0_hw3 => k0_hw3

def k0_chk4 (v46 : IVec S16 32) : Prop :=
  (∀ a x, ((![v46] : Fin 1 → IVec S16 32) a x).toNat < S1024.size a)
theorem k0_idx4_inb : ∀ (v46 : IVec S16 32) (k0_hw4 : k0_chk4 v46), ∀ a x, ((![v46] : Fin 1 → IVec S16 32) a x).toNat < S1024.size a := fun v46 k0_hw4 => k0_hw4

def k0_chk5 (v48 : IVec S16 32) : Prop :=
  (∀ a x, ((![v48] : Fin 1 → IVec S16 32) a x).toNat < S1024.size a)
theorem k0_idx5_inb : ∀ (v48 : IVec S16 32) (k0_hw5 : k0_chk5 v48), ∀ a x, ((![v48] : Fin 1 → IVec S16 32) a x).toNat < S1024.size a := fun v48 k0_hw5 => k0_hw5

def k0_chk6 (v50 : IVec S16 32) : Prop :=
  (∀ a x, ((![v50] : Fin 1 → IVec S16 32) a x).toNat < S1024.size a)
theorem k0_idx6_inb : ∀ (v50 : IVec S16 32) (k0_hw6 : k0_chk6 v50), ∀ a x, ((![v50] : Fin 1 → IVec S16 32) a x).toNat < S1024.size a := fun v50 k0_hw6 => k0_hw6

def k0_chk7 (v52 : IVec S16 32) : Prop :=
  (∀ a x, ((![v52] : Fin 1 → IVec S16 32) a x).toNat < S1024.size a)
theorem k0_idx7_inb : ∀ (v52 : IVec S16 32) (k0_hw7 : k0_chk7 v52), ∀ a x, ((![v52] : Fin 1 → IVec S16 32) a x).toNat < S1024.size a := fun v52 k0_hw7 => k0_hw7

def k0_chk8 (v54 : IVec S16 32) : Prop :=
  (∀ a x, ((![v54] : Fin 1 → IVec S16 32) a x).toNat < S1024.size a)
theorem k0_idx8_inb : ∀ (v54 : IVec S16 32) (k0_hw8 : k0_chk8 v54), ∀ a x, ((![v54] : Fin 1 → IVec S16 32) a x).toNat < S1024.size a := fun v54 k0_hw8 => k0_hw8

def k0_chk9 (v56 : IVec S16 32) : Prop :=
  (∀ a x, ((![v56] : Fin 1 → IVec S16 32) a x).toNat < S1024.size a)
theorem k0_idx9_inb : ∀ (v56 : IVec S16 32) (k0_hw9 : k0_chk9 v56), ∀ a x, ((![v56] : Fin 1 → IVec S16 32) a x).toNat < S1024.size a := fun v56 k0_hw9 => k0_hw9

def k0_chk10 (v58 : IVec S16 32) : Prop :=
  (∀ a x, ((![v58] : Fin 1 → IVec S16 32) a x).toNat < S1024.size a)
theorem k0_idx10_inb : ∀ (v58 : IVec S16 32) (k0_hw10 : k0_chk10 v58), ∀ a x, ((![v58] : Fin 1 → IVec S16 32) a x).toNat < S1024.size a := fun v58 k0_hw10 => k0_hw10

def k0_chk11 (v60 : IVec S16 32) : Prop :=
  (∀ a x, ((![v60] : Fin 1 → IVec S16 32) a x).toNat < S1024.size a)
theorem k0_idx11_inb : ∀ (v60 : IVec S16 32) (k0_hw11 : k0_chk11 v60), ∀ a x, ((![v60] : Fin 1 → IVec S16 32) a x).toNat < S1024.size a := fun v60 k0_hw11 => k0_hw11

def k0_chk12 (v62 : IVec S16 32) : Prop :=
  (∀ a x, ((![v62] : Fin 1 → IVec S16 32) a x).toNat < S1024.size a)
theorem k0_idx12_inb : ∀ (v62 : IVec S16 32) (k0_hw12 : k0_chk12 v62), ∀ a x, ((![v62] : Fin 1 → IVec S16 32) a x).toNat < S1024.size a := fun v62 k0_hw12 => k0_hw12

def k0_chk13 (v64 : IVec S16 32) : Prop :=
  (∀ a x, ((![v64] : Fin 1 → IVec S16 32) a x).toNat < S1024.size a)
theorem k0_idx13_inb : ∀ (v64 : IVec S16 32) (k0_hw13 : k0_chk13 v64), ∀ a x, ((![v64] : Fin 1 → IVec S16 32) a x).toNat < S1024.size a := fun v64 k0_hw13 => k0_hw13

def k0_chk14 (v66 : IVec S16 32) : Prop :=
  (∀ a x, ((![v66] : Fin 1 → IVec S16 32) a x).toNat < S1024.size a)
theorem k0_idx14_inb : ∀ (v66 : IVec S16 32) (k0_hw14 : k0_chk14 v66), ∀ a x, ((![v66] : Fin 1 → IVec S16 32) a x).toNat < S1024.size a := fun v66 k0_hw14 => k0_hw14

def k0_chk15 (v68 : IVec S16 32) : Prop :=
  (∀ a x, ((![v68] : Fin 1 → IVec S16 32) a x).toNat < S1024.size a)
theorem k0_idx15_inb : ∀ (v68 : IVec S16 32) (k0_hw15 : k0_chk15 v68), ∀ a x, ((![v68] : Fin 1 → IVec S16 32) a x).toNat < S1024.size a := fun v68 k0_hw15 => k0_hw15

def k0_chk16 (v70 : IVec S16 32) : Prop :=
  (∀ a x, ((![v70] : Fin 1 → IVec S16 32) a x).toNat < S1024.size a)
theorem k0_idx16_inb : ∀ (v70 : IVec S16 32) (k0_hw16 : k0_chk16 v70), ∀ a x, ((![v70] : Fin 1 → IVec S16 32) a x).toNat < S1024.size a := fun v70 k0_hw16 => k0_hw16

def k0_chk17 (v72 : IVec S16 32) : Prop :=
  (∀ a x, ((![v72] : Fin 1 → IVec S16 32) a x).toNat < S1024.size a)
theorem k0_idx17_inb : ∀ (v72 : IVec S16 32) (k0_hw17 : k0_chk17 v72), ∀ a x, ((![v72] : Fin 1 → IVec S16 32) a x).toNat < S1024.size a := fun v72 k0_hw17 => k0_hw17

def k0_chk18 (v74 : IVec S16 32) : Prop :=
  (∀ a x, ((![v74] : Fin 1 → IVec S16 32) a x).toNat < S1024.size a)
theorem k0_idx18_inb : ∀ (v74 : IVec S16 32) (k0_hw18 : k0_chk18 v74), ∀ a x, ((![v74] : Fin 1 → IVec S16 32) a x).toNat < S1024.size a := fun v74 k0_hw18 => k0_hw18

def k0_chk19 (v76 : IVec S16 32) : Prop :=
  (∀ a x, ((![v76] : Fin 1 → IVec S16 32) a x).toNat < S1024.size a)
theorem k0_idx19_inb : ∀ (v76 : IVec S16 32) (k0_hw19 : k0_chk19 v76), ∀ a x, ((![v76] : Fin 1 → IVec S16 32) a x).toNat < S1024.size a := fun v76 k0_hw19 => k0_hw19

def k0_chk20 (v78 : IVec S16 32) : Prop :=
  (∀ a x, ((![v78] : Fin 1 → IVec S16 32) a x).toNat < S1024.size a)
theorem k0_idx20_inb : ∀ (v78 : IVec S16 32) (k0_hw20 : k0_chk20 v78), ∀ a x, ((![v78] : Fin 1 → IVec S16 32) a x).toNat < S1024.size a := fun v78 k0_hw20 => k0_hw20

def k0_chk21 (v80 : IVec S16 32) : Prop :=
  (∀ a x, ((![v80] : Fin 1 → IVec S16 32) a x).toNat < S1024.size a)
theorem k0_idx21_inb : ∀ (v80 : IVec S16 32) (k0_hw21 : k0_chk21 v80), ∀ a x, ((![v80] : Fin 1 → IVec S16 32) a x).toNat < S1024.size a := fun v80 k0_hw21 => k0_hw21

def k0_chk22 (v82 : IVec S16 32) : Prop :=
  (∀ a x, ((![v82] : Fin 1 → IVec S16 32) a x).toNat < S1024.size a)
theorem k0_idx22_inb : ∀ (v82 : IVec S16 32) (k0_hw22 : k0_chk22 v82), ∀ a x, ((![v82] : Fin 1 → IVec S16 32) a x).toNat < S1024.size a := fun v82 k0_hw22 => k0_hw22

def k0_chk23 (v84 : IVec S16 32) : Prop :=
  (∀ a x, ((![v84] : Fin 1 → IVec S16 32) a x).toNat < S1024.size a)
theorem k0_idx23_inb : ∀ (v84 : IVec S16 32) (k0_hw23 : k0_chk23 v84), ∀ a x, ((![v84] : Fin 1 → IVec S16 32) a x).toNat < S1024.size a := fun v84 k0_hw23 => k0_hw23

def k0_chk24 (v86 : IVec S16 32) : Prop :=
  (∀ a x, ((![v86] : Fin 1 → IVec S16 32) a x).toNat < S1024.size a)
theorem k0_idx24_inb : ∀ (v86 : IVec S16 32) (k0_hw24 : k0_chk24 v86), ∀ a x, ((![v86] : Fin 1 → IVec S16 32) a x).toNat < S1024.size a := fun v86 k0_hw24 => k0_hw24

def k0_chk25 (v88 : IVec S16 32) : Prop :=
  (∀ a x, ((![v88] : Fin 1 → IVec S16 32) a x).toNat < S1024.size a)
theorem k0_idx25_inb : ∀ (v88 : IVec S16 32) (k0_hw25 : k0_chk25 v88), ∀ a x, ((![v88] : Fin 1 → IVec S16 32) a x).toNat < S1024.size a := fun v88 k0_hw25 => k0_hw25

def k0_chk26 (v90 : IVec S16 32) : Prop :=
  (∀ a x, ((![v90] : Fin 1 → IVec S16 32) a x).toNat < S1024.size a)
theorem k0_idx26_inb : ∀ (v90 : IVec S16 32) (k0_hw26 : k0_chk26 v90), ∀ a x, ((![v90] : Fin 1 → IVec S16 32) a x).toNat < S1024.size a := fun v90 k0_hw26 => k0_hw26

def k0_chk27 (v92 : IVec S16 32) : Prop :=
  (∀ a x, ((![v92] : Fin 1 → IVec S16 32) a x).toNat < S1024.size a)
theorem k0_idx27_inb : ∀ (v92 : IVec S16 32) (k0_hw27 : k0_chk27 v92), ∀ a x, ((![v92] : Fin 1 → IVec S16 32) a x).toNat < S1024.size a := fun v92 k0_hw27 => k0_hw27

def k0_chk28 (v94 : IVec S16 32) : Prop :=
  (∀ a x, ((![v94] : Fin 1 → IVec S16 32) a x).toNat < S1024.size a)
theorem k0_idx28_inb : ∀ (v94 : IVec S16 32) (k0_hw28 : k0_chk28 v94), ∀ a x, ((![v94] : Fin 1 → IVec S16 32) a x).toNat < S1024.size a := fun v94 k0_hw28 => k0_hw28

def k0_chk29 (v96 : IVec S16 32) : Prop :=
  (∀ a x, ((![v96] : Fin 1 → IVec S16 32) a x).toNat < S1024.size a)
theorem k0_idx29_inb : ∀ (v96 : IVec S16 32) (k0_hw29 : k0_chk29 v96), ∀ a x, ((![v96] : Fin 1 → IVec S16 32) a x).toNat < S1024.size a := fun v96 k0_hw29 => k0_hw29

def k0_chk30 (v98 : IVec S16 32) : Prop :=
  (∀ a x, ((![v98] : Fin 1 → IVec S16 32) a x).toNat < S1024.size a)
theorem k0_idx30_inb : ∀ (v98 : IVec S16 32) (k0_hw30 : k0_chk30 v98), ∀ a x, ((![v98] : Fin 1 → IVec S16 32) a x).toNat < S1024.size a := fun v98 k0_hw30 => k0_hw30

def k0_chk31 (v100 : IVec S16 32) : Prop :=
  (∀ a x, ((![v100] : Fin 1 → IVec S16 32) a x).toNat < S1024.size a)
theorem k0_idx31_inb : ∀ (v100 : IVec S16 32) (k0_hw31 : k0_chk31 v100), ∀ a x, ((![v100] : Fin 1 → IVec S16 32) a x).toNat < S1024.size a := fun v100 k0_hw31 => k0_hw31

def k0_chk32 (v102 : IVec S16 32) : Prop :=
  (∀ a x, ((![v102] : Fin 1 → IVec S16 32) a x).toNat < S1024.size a)
theorem k0_idx32_inb : ∀ (v102 : IVec S16 32) (k0_hw32 : k0_chk32 v102), ∀ a x, ((![v102] : Fin 1 → IVec S16 32) a x).toNat < S1024.size a := fun v102 k0_hw32 => k0_hw32

def k0_chk33 (v104 : IVec S16 32) : Prop :=
  (∀ a x, ((![v104] : Fin 1 → IVec S16 32) a x).toNat < S1024.size a)
theorem k0_idx33_inb : ∀ (v104 : IVec S16 32) (k0_hw33 : k0_chk33 v104), ∀ a x, ((![v104] : Fin 1 → IVec S16 32) a x).toNat < S1024.size a := fun v104 k0_hw33 => k0_hw33

def k0_chk34 (v106 : IVec S16 32) : Prop :=
  (∀ a x, ((![v106] : Fin 1 → IVec S16 32) a x).toNat < S1024.size a)
theorem k0_idx34_inb : ∀ (v106 : IVec S16 32) (k0_hw34 : k0_chk34 v106), ∀ a x, ((![v106] : Fin 1 → IVec S16 32) a x).toNat < S1024.size a := fun v106 k0_hw34 => k0_hw34

def k0_chk35 (v108 : IVec S16 32) : Prop :=
  (∀ a x, ((![v108] : Fin 1 → IVec S16 32) a x).toNat < S1024.size a)
theorem k0_idx35_inb : ∀ (v108 : IVec S16 32) (k0_hw35 : k0_chk35 v108), ∀ a x, ((![v108] : Fin 1 → IVec S16 32) a x).toNat < S1024.size a := fun v108 k0_hw35 => k0_hw35

def k0_chk36 (v110 : IVec S16 32) : Prop :=
  (∀ a x, ((![v110] : Fin 1 → IVec S16 32) a x).toNat < S1024.size a)
theorem k0_idx36_inb : ∀ (v110 : IVec S16 32) (k0_hw36 : k0_chk36 v110), ∀ a x, ((![v110] : Fin 1 → IVec S16 32) a x).toNat < S1024.size a := fun v110 k0_hw36 => k0_hw36

def k0_chk37 (v112 : IVec S16 32) : Prop :=
  (∀ a x, ((![v112] : Fin 1 → IVec S16 32) a x).toNat < S1024.size a)
theorem k0_idx37_inb : ∀ (v112 : IVec S16 32) (k0_hw37 : k0_chk37 v112), ∀ a x, ((![v112] : Fin 1 → IVec S16 32) a x).toNat < S1024.size a := fun v112 k0_hw37 => k0_hw37

def k0_chk38 (v114 : IVec S16 32) : Prop :=
  (∀ a x, ((![v114] : Fin 1 → IVec S16 32) a x).toNat < S1024.size a)
theorem k0_idx38_inb : ∀ (v114 : IVec S16 32) (k0_hw38 : k0_chk38 v114), ∀ a x, ((![v114] : Fin 1 → IVec S16 32) a x).toNat < S1024.size a := fun v114 k0_hw38 => k0_hw38

def k0_chk39 (v116 : IVec S16 32) : Prop :=
  (∀ a x, ((![v116] : Fin 1 → IVec S16 32) a x).toNat < S1024.size a)
theorem k0_idx39_inb : ∀ (v116 : IVec S16 32) (k0_hw39 : k0_chk39 v116), ∀ a x, ((![v116] : Fin 1 → IVec S16 32) a x).toNat < S1024.size a := fun v116 k0_hw39 => k0_hw39

def k0_chk40 (v118 : IVec S16 32) : Prop :=
  (∀ a x, ((![v118] : Fin 1 → IVec S16 32) a x).toNat < S1024.size a)
theorem k0_idx40_inb : ∀ (v118 : IVec S16 32) (k0_hw40 : k0_chk40 v118), ∀ a x, ((![v118] : Fin 1 → IVec S16 32) a x).toNat < S1024.size a := fun v118 k0_hw40 => k0_hw40

def k0_chk41 (v120 : IVec S16 32) : Prop :=
  (∀ a x, ((![v120] : Fin 1 → IVec S16 32) a x).toNat < S1024.size a)
theorem k0_idx41_inb : ∀ (v120 : IVec S16 32) (k0_hw41 : k0_chk41 v120), ∀ a x, ((![v120] : Fin 1 → IVec S16 32) a x).toNat < S1024.size a := fun v120 k0_hw41 => k0_hw41

def k0_chk42 (v122 : IVec S16 32) : Prop :=
  (∀ a x, ((![v122] : Fin 1 → IVec S16 32) a x).toNat < S1024.size a)
theorem k0_idx42_inb : ∀ (v122 : IVec S16 32) (k0_hw42 : k0_chk42 v122), ∀ a x, ((![v122] : Fin 1 → IVec S16 32) a x).toNat < S1024.size a := fun v122 k0_hw42 => k0_hw42

def k0_chk43 (v124 : IVec S16 32) : Prop :=
  (∀ a x, ((![v124] : Fin 1 → IVec S16 32) a x).toNat < S1024.size a)
theorem k0_idx43_inb : ∀ (v124 : IVec S16 32) (k0_hw43 : k0_chk43 v124), ∀ a x, ((![v124] : Fin 1 → IVec S16 32) a x).toNat < S1024.size a := fun v124 k0_hw43 => k0_hw43

def k0_chk44 (v126 : IVec S16 32) : Prop :=
  (∀ a x, ((![v126] : Fin 1 → IVec S16 32) a x).toNat < S1024.size a)
theorem k0_idx44_inb : ∀ (v126 : IVec S16 32) (k0_hw44 : k0_chk44 v126), ∀ a x, ((![v126] : Fin 1 → IVec S16 32) a x).toNat < S1024.size a := fun v126 k0_hw44 => k0_hw44

def k0_chk45 (v128 : IVec S16 32) : Prop :=
  (∀ a x, ((![v128] : Fin 1 → IVec S16 32) a x).toNat < S1024.size a)
theorem k0_idx45_inb : ∀ (v128 : IVec S16 32) (k0_hw45 : k0_chk45 v128), ∀ a x, ((![v128] : Fin 1 → IVec S16 32) a x).toNat < S1024.size a := fun v128 k0_hw45 => k0_hw45

def k0_chk46 (v130 : IVec S16 32) : Prop :=
  (∀ a x, ((![v130] : Fin 1 → IVec S16 32) a x).toNat < S1024.size a)
theorem k0_idx46_inb : ∀ (v130 : IVec S16 32) (k0_hw46 : k0_chk46 v130), ∀ a x, ((![v130] : Fin 1 → IVec S16 32) a x).toNat < S1024.size a := fun v130 k0_hw46 => k0_hw46

def k0_chk47 (v132 : IVec S16 32) : Prop :=
  (∀ a x, ((![v132] : Fin 1 → IVec S16 32) a x).toNat < S1024.size a)
theorem k0_idx47_inb : ∀ (v132 : IVec S16 32) (k0_hw47 : k0_chk47 v132), ∀ a x, ((![v132] : Fin 1 → IVec S16 32) a x).toNat < S1024.size a := fun v132 k0_hw47 => k0_hw47

def k0_chk48 (v134 : IVec S16 32) : Prop :=
  (∀ a x, ((![v134] : Fin 1 → IVec S16 32) a x).toNat < S1024.size a)
theorem k0_idx48_inb : ∀ (v134 : IVec S16 32) (k0_hw48 : k0_chk48 v134), ∀ a x, ((![v134] : Fin 1 → IVec S16 32) a x).toNat < S1024.size a := fun v134 k0_hw48 => k0_hw48

def k0_chk49 (v136 : IVec S16 32) : Prop :=
  (∀ a x, ((![v136] : Fin 1 → IVec S16 32) a x).toNat < S1024.size a)
theorem k0_idx49_inb : ∀ (v136 : IVec S16 32) (k0_hw49 : k0_chk49 v136), ∀ a x, ((![v136] : Fin 1 → IVec S16 32) a x).toNat < S1024.size a := fun v136 k0_hw49 => k0_hw49

def k0_chk50 (v138 : IVec S16 32) : Prop :=
  (∀ a x, ((![v138] : Fin 1 → IVec S16 32) a x).toNat < S1024.size a)
theorem k0_idx50_inb : ∀ (v138 : IVec S16 32) (k0_hw50 : k0_chk50 v138), ∀ a x, ((![v138] : Fin 1 → IVec S16 32) a x).toNat < S1024.size a := fun v138 k0_hw50 => k0_hw50

def k0_chk51 (v140 : IVec S16 32) : Prop :=
  (∀ a x, ((![v140] : Fin 1 → IVec S16 32) a x).toNat < S1024.size a)
theorem k0_idx51_inb : ∀ (v140 : IVec S16 32) (k0_hw51 : k0_chk51 v140), ∀ a x, ((![v140] : Fin 1 → IVec S16 32) a x).toNat < S1024.size a := fun v140 k0_hw51 => k0_hw51

def k0_chk52 (v142 : IVec S16 32) : Prop :=
  (∀ a x, ((![v142] : Fin 1 → IVec S16 32) a x).toNat < S1024.size a)
theorem k0_idx52_inb : ∀ (v142 : IVec S16 32) (k0_hw52 : k0_chk52 v142), ∀ a x, ((![v142] : Fin 1 → IVec S16 32) a x).toNat < S1024.size a := fun v142 k0_hw52 => k0_hw52

def k0_chk53 (v144 : IVec S16 32) : Prop :=
  (∀ a x, ((![v144] : Fin 1 → IVec S16 32) a x).toNat < S1024.size a)
theorem k0_idx53_inb : ∀ (v144 : IVec S16 32) (k0_hw53 : k0_chk53 v144), ∀ a x, ((![v144] : Fin 1 → IVec S16 32) a x).toNat < S1024.size a := fun v144 k0_hw53 => k0_hw53

def k0_chk54 (v146 : IVec S16 32) : Prop :=
  (∀ a x, ((![v146] : Fin 1 → IVec S16 32) a x).toNat < S1024.size a)
theorem k0_idx54_inb : ∀ (v146 : IVec S16 32) (k0_hw54 : k0_chk54 v146), ∀ a x, ((![v146] : Fin 1 → IVec S16 32) a x).toNat < S1024.size a := fun v146 k0_hw54 => k0_hw54

def k0_chk55 (v148 : IVec S16 32) : Prop :=
  (∀ a x, ((![v148] : Fin 1 → IVec S16 32) a x).toNat < S1024.size a)
theorem k0_idx55_inb : ∀ (v148 : IVec S16 32) (k0_hw55 : k0_chk55 v148), ∀ a x, ((![v148] : Fin 1 → IVec S16 32) a x).toNat < S1024.size a := fun v148 k0_hw55 => k0_hw55

def k0_chk56 (v150 : IVec S16 32) : Prop :=
  (∀ a x, ((![v150] : Fin 1 → IVec S16 32) a x).toNat < S1024.size a)
theorem k0_idx56_inb : ∀ (v150 : IVec S16 32) (k0_hw56 : k0_chk56 v150), ∀ a x, ((![v150] : Fin 1 → IVec S16 32) a x).toNat < S1024.size a := fun v150 k0_hw56 => k0_hw56

def k0_chk57 (v152 : IVec S16 32) : Prop :=
  (∀ a x, ((![v152] : Fin 1 → IVec S16 32) a x).toNat < S1024.size a)
theorem k0_idx57_inb : ∀ (v152 : IVec S16 32) (k0_hw57 : k0_chk57 v152), ∀ a x, ((![v152] : Fin 1 → IVec S16 32) a x).toNat < S1024.size a := fun v152 k0_hw57 => k0_hw57

def k0_chk58 (v154 : IVec S16 32) : Prop :=
  (∀ a x, ((![v154] : Fin 1 → IVec S16 32) a x).toNat < S1024.size a)
theorem k0_idx58_inb : ∀ (v154 : IVec S16 32) (k0_hw58 : k0_chk58 v154), ∀ a x, ((![v154] : Fin 1 → IVec S16 32) a x).toNat < S1024.size a := fun v154 k0_hw58 => k0_hw58

def k0_chk59 (v156 : IVec S16 32) : Prop :=
  (∀ a x, ((![v156] : Fin 1 → IVec S16 32) a x).toNat < S1024.size a)
theorem k0_idx59_inb : ∀ (v156 : IVec S16 32) (k0_hw59 : k0_chk59 v156), ∀ a x, ((![v156] : Fin 1 → IVec S16 32) a x).toNat < S1024.size a := fun v156 k0_hw59 => k0_hw59

def k0_chk60 (v158 : IVec S16 32) : Prop :=
  (∀ a x, ((![v158] : Fin 1 → IVec S16 32) a x).toNat < S1024.size a)
theorem k0_idx60_inb : ∀ (v158 : IVec S16 32) (k0_hw60 : k0_chk60 v158), ∀ a x, ((![v158] : Fin 1 → IVec S16 32) a x).toNat < S1024.size a := fun v158 k0_hw60 => k0_hw60

def k0_chk61 (v160 : IVec S16 32) : Prop :=
  (∀ a x, ((![v160] : Fin 1 → IVec S16 32) a x).toNat < S1024.size a)
theorem k0_idx61_inb : ∀ (v160 : IVec S16 32) (k0_hw61 : k0_chk61 v160), ∀ a x, ((![v160] : Fin 1 → IVec S16 32) a x).toNat < S1024.size a := fun v160 k0_hw61 => k0_hw61

def k0_chk62 (v162 : IVec S16 32) : Prop :=
  (∀ a x, ((![v162] : Fin 1 → IVec S16 32) a x).toNat < S1024.size a)
theorem k0_idx62_inb : ∀ (v162 : IVec S16 32) (k0_hw62 : k0_chk62 v162), ∀ a x, ((![v162] : Fin 1 → IVec S16 32) a x).toNat < S1024.size a := fun v162 k0_hw62 => k0_hw62

def k0_chk63 (v164 : IVec S16 32) : Prop :=
  (∀ a x, ((![v164] : Fin 1 → IVec S16 32) a x).toNat < S1024.size a)
theorem k0_idx63_inb : ∀ (v164 : IVec S16 32) (k0_hw63 : k0_chk63 v164), ∀ a x, ((![v164] : Fin 1 → IVec S16 32) a x).toNat < S1024.size a := fun v164 k0_hw63 => k0_hw63

def k0_chk64 (v166 : IVec S16 32) : Prop :=
  (∀ a x, ((![v166] : Fin 1 → IVec S16 32) a x).toNat < S1024.size a)
theorem k0_idx64_inb : ∀ (v166 : IVec S16 32) (k0_hw64 : k0_chk64 v166), ∀ a x, ((![v166] : Fin 1 → IVec S16 32) a x).toNat < S1024.size a := fun v166 k0_hw64 => k0_hw64
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v199 : BitVec 32 := Scalar.muli v1 c1024_i32
  let c0_i32_207_r1 : BitVec 32 := 0#32
  ![v199.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_207_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x64 : Shape := ⟨2, ![1024, 64]⟩
abbrev S256x128 : Shape := ⟨2, ![256, 128]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x64 : Shape := ⟨2, ![32768, 64]⟩
abbrev S32x1024 : Shape := ⟨2, ![32, 1024]⟩
abbrev S32x1024x1 : Shape := ⟨3, ![32, 1024, 1]⟩
abbrev S1x1x1024 : Shape := ⟨3, ![1, 1, 1024]⟩
abbrev S32x1024x1024 : Shape := ⟨3, ![32, 1024, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S256x128, .i32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S1, .i32⟩
  | .hbm, ⟨12, _⟩ => ⟨S_, .i32⟩
  | .hbm, ⟨13, _⟩ => ⟨S32768x1, .i32⟩
  | .hbm, ⟨14, _⟩ => ⟨S32768x1, .i1⟩
  | .hbm, ⟨15, _⟩ => ⟨S1x1, .i32⟩
  | .hbm, ⟨16, _⟩ => ⟨S32768x1, .i32⟩
  | .hbm, ⟨17, _⟩ => ⟨S32768x1, .i1⟩
  | .hbm, ⟨18, _⟩ => ⟨S32768x1, .i1⟩
  | .hbm, ⟨19, _⟩ => ⟨S_, .i1⟩
  | .hbm, ⟨20, _⟩ => ⟨S32768, .i1⟩
  | .hbm, ⟨21, _⟩ => ⟨S32768x64, .f32⟩
  | .hbm, ⟨22, _⟩ => ⟨S32768x64, .i1⟩
  | .hbm, ⟨23, _⟩ => ⟨S_, .f32⟩
  | .hbm, ⟨24, _⟩ => ⟨S32768x64, .f32⟩
  | .hbm, ⟨25, _⟩ => ⟨S32768x64, .f32⟩
  | .hbm, ⟨26, _⟩ => ⟨S32x1024, .i32⟩
  | .hbm, ⟨27, _⟩ => ⟨S32x1024x1, .i32⟩
  | .hbm, ⟨28, _⟩ => ⟨S1x1x1024, .i32⟩
  | .hbm, ⟨29, _⟩ => ⟨S32x1024x1024, .i32⟩
  | .hbm, ⟨30, _⟩ => ⟨S32x1024x1024, .i32⟩
  | .hbm, ⟨31, _⟩ => ⟨S32x1024x1024, .i1⟩
  | .hbm, ⟨32, _⟩ => ⟨S32x1024x1024, .f32⟩
  | .hbm, ⟨33, _⟩ => ⟨S_, .f32⟩
  | .hbm, ⟨34, _⟩ => ⟨S32x1024, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩

abbrev nD : Nat := 1
abbrev τ : Topo := Topo.v7x

variable {F : FTy → Type} [FloatOps F]
-- ==== Nearest.lean ====
abbrev S32x1024x64 : Shape := ⟨3, ![32, 1024, 64]⟩
abbrev S1024x64 : Shape := ⟨2, ![1024, 64]⟩
abbrev S16384x128 : Shape := ⟨2, ![16384, 128]⟩
abbrev S_ : Shape := ⟨0, ![]⟩
abbrev S1024 : Shape := ⟨1, ![1024]⟩
abbrev S1x1024 : Shape := ⟨2, ![1, 1024]⟩
abbrev S8x1x2048 : Shape := ⟨3, ![8, 1, 2048]⟩
abbrev S2048x128 : Shape := ⟨2, ![2048, 128]⟩
abbrev S1x1x2048 : Shape := ⟨3, ![1, 1, 2048]⟩
abbrev S2048x64 : Shape := ⟨2, ![2048, 64]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x1024x64, .f32⟩
  | .hbm, ⟨1, _⟩ => ⟨S1024x64, .f32⟩
  | .hbm, ⟨2, _⟩ => ⟨S16384x128, .f32⟩
  | .hbm, ⟨3, _⟩ => ⟨S_, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S8x1x2048, .i32⟩
  | .hbm, ⟨11, _⟩ => ⟨S8x1x2048, .i32⟩
  | .local _ .vmem, ⟨0, _⟩ => ⟨S2048x128, .f32⟩
  | .local _ .vmem, ⟨1, _⟩ => ⟨S2048x128, .f32⟩
  | .local _ .vmem, ⟨2, _⟩ => ⟨S1024x64, .f32⟩
  | .local _ .vmem, ⟨3, _⟩ => ⟨S1x1024, .f32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NearestReferenceIdeal.lean ====
abbrev S32x1024x64 : Shape := ⟨3, ![32, 1024, 64]⟩
abbrev S1024x64 : Shape := ⟨2, ![1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S16384 : Shape := ⟨1, ![16384]⟩
abbrev S8x1x2048 : Shape := ⟨3, ![8, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S1024x64, .f32⟩
  | .hbm, ⟨2, _⟩ => ⟨S32768x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S64x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .i32⟩
  | .hbm, ⟨21, _⟩ => ⟨S_, .f32⟩
  | .hbm, ⟨22, _⟩ => ⟨S_, .i32⟩
  | .hbm, ⟨23, _⟩ => ⟨S32768, .f32⟩
  | .hbm, ⟨24, _⟩ => ⟨S32768, .i32⟩
  | .hbm, ⟨25, _⟩ => ⟨S16384, .i32⟩
  | .hbm, ⟨26, _⟩ => ⟨S8x1x2048, .i32⟩
  | .hbm, ⟨27, _⟩ => ⟨S16384, .i32⟩
  | .hbm, ⟨28, _⟩ => ⟨S8x1x2048, .i32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Next.lean ====
abbrev S16384x128 : Shape := ⟨2, ![16384, 128]⟩
abbrev S1024x64 : Shape := ⟨2, ![1024, 64]⟩
abbrev S_ : Shape := ⟨0, ![]⟩
abbrev S1024 : Shape := ⟨1, ![1024]⟩
abbrev S1x1024 : Shape := ⟨2, ![1, 1024]⟩
abbrev S8x1x2048 : Shape := ⟨3, ![8, 1, 2048]⟩
abbrev S1x1 : Shape := ⟨2, ![1, 1]⟩
abbrev S2048x128 : Shape := ⟨2, ![2048, 128]⟩
abbrev S1x1x2048 : Shape := ⟨3, ![1, 1, 2048]⟩
abbrev S2048x64 : Shape := ⟨2, ![2048, 64]⟩
abbrev S2048x1024 : Shape := ⟨2, ![2048, 1024]⟩
abbrev S2048 : Shape := ⟨1, ![2048]⟩
abbrev S2048x1 : Shape := ⟨2, ![2048, 1]⟩
abbrev S1x2048x128 : Shape := ⟨3, ![1, 2048, 128]⟩
abbrev S1 : Shape := ⟨1, ![1]⟩
abbrev S1x1x1 : Shape := ⟨3, ![1, 1, 1]⟩

abbrev nBuf : Space → Nat
  | .hbm => 14
  | .vmem => 12
  | .smem => 1
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S1024x64, .f32⟩
  | .hbm, ⟨3, _⟩ => ⟨S_, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S16384x128, .f32⟩
  | .hbm, ⟨11, _⟩ => ⟨S8x1x2048, .i32⟩
  | .hbm, ⟨12, _⟩ => ⟨S8x1x2048, .i32⟩
  | .hbm, ⟨13, _⟩ => ⟨S1x1, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1024x64, .f32⟩
  | .local _ .vmem, ⟨5, _⟩ => ⟨S1x1024, .f32⟩
  | .local _ .vmem, ⟨6, _⟩ => ⟨S2048x128, .f32⟩
  | .local _ .vmem, ⟨7, _⟩ => ⟨S2048x128, .f32⟩
  | .local _ .vmem, ⟨8, _⟩ => ⟨S1x1x2048, .i32⟩
  | .local _ .vmem, ⟨9, _⟩ => ⟨S1x1x2048, .i32⟩
  | .local _ .vmem, ⟨10, _⟩ => ⟨S1x1x2048, .i32⟩
  | .local _ .vmem, ⟨11, _⟩ => ⟨S1x1x2048, .i32⟩
  | .local _ .smem, ⟨0, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NextReferenceIdeal.lean ====
abbrev S16384x128 : Shape := ⟨2, ![16384, 128]⟩
abbrev S1024x64 : Shape := ⟨2, ![1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S16384 : Shape := ⟨1, ![16384]⟩
abbrev S8x1x2048 : Shape := ⟨3, ![8, 1, 2048]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S1024x64, .f32⟩
  | .hbm, ⟨3, _⟩ => ⟨S16384x128, .f32⟩
  | .hbm, ⟨4, _⟩ => ⟨S32768x64, .f32⟩
  | .hbm, ⟨5, _⟩ => ⟨S32768x64, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S1024x64, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S64x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .i32⟩
  | .hbm, ⟨23, _⟩ => ⟨S_, .f32⟩
  | .hbm, ⟨24, _⟩ => ⟨S_, .i32⟩
  | .hbm, ⟨25, _⟩ => ⟨S32768, .f32⟩
  | .hbm, ⟨26, _⟩ => ⟨S32768, .i32⟩
  | .hbm, ⟨27, _⟩ => ⟨S16384, .i32⟩
  | .hbm, ⟨28, _⟩ => ⟨S8x1x2048, .i32⟩
  | .hbm, ⟨29, _⟩ => ⟨S16384, .i32⟩
  | .hbm, ⟨30, _⟩ => ⟨S8x1x2048, .i32⟩
  | .hbm, ⟨31, _⟩ => ⟨S16384x128, .f32⟩
  | .hbm, ⟨32, _⟩ => ⟨S_, .f32⟩
  | .hbm, ⟨33, _⟩ => ⟨S_, .f32⟩
  | .hbm, ⟨34, _⟩ => ⟨S1x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Finish.lean ====
abbrev S16384x128 : Shape := ⟨2, ![16384, 128]⟩
abbrev S128x1024 : Shape := ⟨2, ![128, 1024]⟩
abbrev S1x3 : Shape := ⟨2, ![1, 3]⟩
abbrev S1x1 : Shape := ⟨2, ![1, 1]⟩
abbrev S1x4 : Shape := ⟨2, ![1, 4]⟩
abbrev S2048x128 : Shape := ⟨2, ![2048, 128]⟩
abbrev S1x2048x128 : Shape := ⟨3, ![1, 2048, 128]⟩
abbrev S1 : Shape := ⟨1, ![1]⟩
abbrev S1x1x1 : Shape := ⟨3, ![1, 1, 1]⟩
abbrev S32x1024 : Shape := ⟨2, ![32, 1024]⟩
abbrev S1024 : Shape := ⟨1, ![1024]⟩
abbrev S1x1024 : Shape := ⟨2, ![1, 1024]⟩

abbrev nBuf : Space → Nat
  | .hbm => 8
  | .vmem => 9
  | .smem => 3
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S128x1024, .f32⟩
  | .hbm, ⟨4, _⟩ => ⟨S1x3, .f32⟩
  | .hbm, ⟨5, _⟩ => ⟨S16384x128, .f32⟩
  | .hbm, ⟨6, _⟩ => ⟨S1x1, .f32⟩
  | .hbm, ⟨7, _⟩ => ⟨S1x4, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x1024, .f32⟩
  | .local _ .vmem, ⟨7, _⟩ => ⟨S2048x128, .f32⟩
  | .local _ .vmem, ⟨8, _⟩ => ⟨S2048x128, .f32⟩
  | .local _ .smem, ⟨0, _⟩ => ⟨S1x3, .f32⟩
  | .local _ .smem, ⟨1, _⟩ => ⟨S1x1, .f32⟩
  | .local _ .smem, ⟨2, _⟩ => ⟨S1x4, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg4_0 : Ref sig .tc := ⟨.smem, 0, rfl⟩
abbrev cc0_stg6_0 : Ref sig .tc := ⟨.smem, 1, rfl⟩
abbrev cc0_stg7_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FinishReferenceIdeal.lean ====
abbrev S16384x128 : Shape := ⟨2, ![16384, 128]⟩
abbrev S128x1024 : Shape := ⟨2, ![128, 1024]⟩
abbrev S1x3 : Shape := ⟨2, ![1, 3]⟩
abbrev S_ : Shape := ⟨0, ![]⟩
abbrev S4x32x1024 : Shape := ⟨3, ![4, 32, 1024]⟩
abbrev S4x1024 : Shape := ⟨2, ![4, 1024]⟩
abbrev S4 : Shape := ⟨1, ![4]⟩
abbrev S1x1 : Shape := ⟨2, ![1, 1]⟩
abbrev S1x4 : Shape := ⟨2, ![1, 4]⟩

abbrev nBuf : Space → Nat
  | .hbm => 40
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S128x1024, .f32⟩
  | .hbm, ⟨4, _⟩ => ⟨S1x3, .f32⟩
  | .hbm, ⟨5, _⟩ => ⟨S16384x128, .f32⟩
  | .hbm, ⟨6, _⟩ => ⟨S16384x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x3, .f32⟩
  | .hbm, ⟨15, _⟩ => ⟨S1x3, .f32⟩
  | .hbm, ⟨16, _⟩ => ⟨S_, .f32⟩
  | .hbm, ⟨17, _⟩ => ⟨S1x3, .f32⟩
  | .hbm, ⟨18, _⟩ => ⟨S1x3, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x32x1024, .f32⟩
  | .hbm, ⟨23, _⟩ => ⟨S_, .f32⟩
  | .hbm, ⟨24, _⟩ => ⟨S4x1024, .f32⟩
  | .hbm, ⟨25, _⟩ => ⟨S_, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S4x1024, .f32⟩
  | .hbm, ⟨30, _⟩ => ⟨S4x1024, .f32⟩
  | .hbm, ⟨31, _⟩ => ⟨S4x1024, .f32⟩
  | .hbm, ⟨32, _⟩ => ⟨S4x1024, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S16384x128, .f32⟩
  | .hbm, ⟨38, _⟩ => ⟨S1x1, .f32⟩
  | .hbm, ⟨39, _⟩ => ⟨S1x4, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_cst_6 : Ref sig .tc := ⟨.hbm, 25, rfl⟩
abbrev main_v13 : Ref sig .tc := ⟨.hbm, 26, rfl⟩
abbrev main_v14 : Ref sig .tc := ⟨.hbm, 27, rfl⟩
abbrev main_cst_7 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_8 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Proof.Streams.lean ====
module

public import Idealize.ShloMosaic.Lib.Batch
public import Idealize.ShloMosaic.Lib.SparseCore.Stream

/-!
# Several indirect gathers outstanding on one semaphore

The rows of all the gathers issued on one semaphore are counted as one batch: a gather of `o` rows is the batch's next
`o` transfers.  `pending_block` cuts the next `o` members off a family over the transfers still to issue, and
`wp_gatherIntoBatch` is the rule for issuing one gather.
-/

@[expose] public section

namespace Streams

open Idealize Idealize.SL Idealize.ShloMosaic Idealize.ShloMosaic.Transfers Idealize.ShloMosaic.SparseCore
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- Separating conjunction regrouped to the left. -/
theorem sep_regroup (P Q R : sProp 𝕄) : iprop(P ∗ Q ∗ R) = iprop((P ∗ Q) ∗ R) := by
  have h1 : iprop(P ∗ Q ∗ R) ⊢ iprop((P ∗ Q) ∗ R) := by
    iintro ⟨H0, H1, H2⟩
    isplitl [H0 H1]
    · isplitl [H0] <;> iassumption
    · iexact H2
  have h2 : iprop((P ∗ Q) ∗ R) ⊢ iprop(P ∗ Q ∗ R) := by
    iintro ⟨⟨H0, H1⟩, H2⟩
    isplitl [H0]; · iexact H0
    isplitl [H1] <;> iassumption
  exact Idealize.SL.BI.Entails.antisymm h1 h2

/-- A family over the members from `j` on is its next `o` members beside the family over the members from `j + o` on. -/
theorem pending_block {n : ℕ} (Φ : Fin n → sProp 𝕄) (o j : ℕ) (h : j + o ≤ n) :
    bigSep (pending (n := n) j) Φ
      = iprop(bigSep Finset.univ (fun k : Fin o => Φ ⟨j + k.val, by omega⟩) ∗ bigSep (pending (n := n) (j + o)) Φ) := by
  induction o generalizing j with
  | zero =>
    rw [show (Finset.univ : Finset (Fin 0)) = ∅ from rfl, BI.bigSep_empty]
    exact (Idealize.SL.BI.equiv_iff.mp Idealize.SL.BI.emp_sep).symm
  | succ o ih =>
    have e : pending (n := n) (j + 1 + o) = pending (n := n) (j + (o + 1)) := congrArg pending (by omega)
    have e' : (fun k : Fin o => Φ ⟨j + 1 + k.val, by omega⟩) = fun k : Fin o => Φ ⟨j + k.succ.val, by simp; omega⟩ := by
      funext k; congr 1; apply Fin.ext; simp; omega
    have e0 : Φ ⟨j, by omega⟩ = Φ ⟨j + (0 : Fin (o + 1)).val, by simp; omega⟩ := rfl
    rw [bigSep_pending_step Φ j (by omega), ih (j + 1) (by omega), bigSep_univ_succ, e, e', e0]
    exact sep_regroup _ _ _

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- Issuing an indirect gather of `o` rows as the next `o` transfers of a batch, whose first `j` transfers have been
    issued.  Row `k` of the gather takes from the resources `R` of transfer `j + k` the row of the destination it writes,
    the list's entry it reads and a share of the source, and delivers `D (j + k)`: the row written with the source's row
    that the entry names, the entry and the source's share.  The core goes on with the `o` transfers issued. -/
theorem wp_gatherIntoBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {qk : Fin (s.size hg.axis') → PosShare TreeShare}
    {fs : Buf (Elt F) (src.view.loc c)} {fd : Buf (Elt F) (dst.view.loc c)} {fo : Buf (Elt F) (offs.view.loc c)}
    {n : ℕ} {R D : Fin n → sProp 𝕄} {j u : ℕ}
    (ι : Ix) (N : ℕ) (hN : ∀ t, (dst.slice (s.rowRect hg.axis' t) (s.stride_rowRect hg.axis' t)).view.dmaCredit = N)
    (hj : j + s.size hg.axis' ≤ n) (hu : u ≤ j * N)
    (hin : ∀ x, (offs.view.read (Elt F) fo x).toNat < s₀.size hg.axis)
    (hR : ∀ t : Fin (s.size hg.axis'), R ⟨j + t.val, by omega⟩
      ⊢ iprop((dst.view.loc c ↦[(dst.view.slice (s.rowRect hg.axis' t)).set]{fullShare} fd)
        ∗ (offs.view.loc c ↦[{offs.view.emb (si.rowMajor.symm (t.cast hn.symm))}]{qo} fo)
        ∗ (src.view.loc c ↦[src.view.set]{qk t} fs)))
    (hD : ∀ t : Fin (s.size hg.axis'),
      iprop(((dst.view.loc c ↦[(dst.view.slice (s.rowRect hg.axis' t)).set]{fullShare}
              ((dst.view.slice (s.rowRect hg.axis' t)).write (Elt F) fd
                (fun i => src.view.read (Elt F) fs (hg.rowIdx (rows (offs.view.read (Elt F) fo) hn hin t) i)) Finset.univ))
        ∗ (offs.view.loc c ↦[{offs.view.emb (si.rowMajor.symm (t.cast hn.symm))}]{qo} fo))
        ∗ (src.view.loc c ↦[src.view.set]{qk t} fs)) ⊢ D ⟨j + t.val, by omega⟩) :
    iprop(bigSep (pending (n := n) j) R ∗ Batch EC c (.dma sem) ι N D j u)
      ⊢ iprop((iprop(bigSep (pending (n := n) (j + s.size hg.axis')) R ∗ Batch EC c (.dma sem) ι N D (j + s.size hg.axis') u)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun t w => (rowOf (s₀.size hg.axis) w).map (gatherRow c src dst hg sem hsrc he hsp hr t)) 0
  let rd : Fin (s.size hg.axis') → RowDma τ sig (Elt F) c.2 sem := fun t =>
    gatherRow c src dst hg sem hsrc he hsp hr t (rows (offs.view.read (Elt F) fo) hn hin t)
  have hA : S.RowsAgree := by
    intro t x x' ρ ρ' h h'
    obtain ⟨_, _, rfl⟩ := Option.map_eq_some_iff.mp h
    obtain ⟨_, _, rfl⟩ := Option.map_eq_some_iff.mp h'
    rfl
  have hrd : ∀ t, S.row t (S.word fo t) = some (rd t) := fun t => by
    change (rowOf (s₀.size hg.axis) (offs.view.read (Elt F) fo (S.entry t))).map _ = _
    rw [rowOf_of_lt (hin _)]; rfl
  have hsum : ∑ t, (dst.slice (s.rowRect hg.axis' t) (s.stride_rowRect hg.axis' t)).view.dmaCredit = s.size hg.axis' * N := by
    rw [Finset.sum_congr rfl fun t _ => hN t, Finset.sum_const, Finset.card_univ, Fintype.card_fin, smul_eq_mul]
  unfold Batch
  iintro ⟨HR, ⟨%γ, %γ₀, %κ, #Hinv, HI, H0, Hcred⟩⟩ Hk
  ihave HR' := (Entails.of_eq (pending_block R (s.size hg.axis') j hj)) $$ HR
  icases HR' with ⟨HR, HRr⟩
  ihave HI' := (Entails.of_eq (pending_block (fun t => count EC (γ t) 0) (s.size hg.axis') j hj)) $$ HI
  icases HI' with ⟨HI, HIr⟩
  iapply (wp_enqueueIndirectDma 𝒱 c bd Set.univ (qo := qo) (fo := fo) (rd := rd) ι (s.size hg.axis' * N) hA hrd hsum) $$ [HR HI]
  · have hrow : ∀ t : Fin (s.size hg.axis'), iprop(inv κ (batchBody EC (c, SemLoc.dma sem) N D γ γ₀)
          ∗ (R ⟨j + t.val, by omega⟩ ∗ count EC (γ ⟨j + t.val, by omega⟩) 0))
        ⊢ iprop(S.heldEntry qo fo t ∗ (S.heldEntry qo fo t -∗ rowRes c (rd t))) := fun t => by
      iintro ⟨#Hinv, HR, Hγ⟩
      ihave HR' := (hR t) $$ HR
      icases HR' with ⟨Hr, He, Hs⟩
      isplitl [He]; · iexact He
      iintro He
      unfold rowRes
      iexists qk t, fs, iprop((dst.view.loc c ↦[(dst.view.slice (s.rowRect hg.axis' t)).set]{fullShare} ((dst.view.slice (s.rowRect hg.axis' t)).write (Elt F) fd
          (fun i => src.view.read (Elt F) fs (hg.rowIdx (rows (offs.view.read (Elt F) fo) hn hin t) i)) Finset.univ)) ∗ S.heldEntry qo fo t)
      isplitl [Hs]; · iexact Hs
      isplitl [Hr He]
      · iapply writeUpdate_frame
        isplitl [Hr]
        · iapply (pointsTo_writeUpdate c (v := dst.view.slice (s.rowRect hg.axis' t)) subset_rfl) $$ Hr
        · iexact He
      · have hcu := batch_creditUpdate EC (g := (c, SemLoc.dma sem)) (N := N) (γ := γ) (γ₀ := γ₀) (ι := κ) ⟨j + t.val, by omega⟩ (hD t)
        have hcu' := Eq.subst (motive := fun x => iprop(inv κ (batchBody EC (c, SemLoc.dma sem) N D γ γ₀) ∗ count EC (γ ⟨j + t.val, by omega⟩) 0)
          ⊢ creditUpdate (c, SemLoc.dma sem) x 0 _) (hN t).symm hcu
        iapply hcu'
        isplitr; · iexact Hinv
        iexact Hγ
    unfold Stream.res
    ihave H3 := bigSep_sep_in _ _ _ $$ [HR HI]; · isplitl [HR] <;> iassumption
    iapply (bigSep_mono_pers Finset.univ _ _ _ fun t _ => hrow t)
    isplitr; · iexact Hinv
    iexact H3
  iintro Hcred'
  iapply Hk
  isplitl [HRr]; · iexact HRr
  iexists γ, γ₀, κ
  isplitr; · iexact Hinv
  isplitl [HIr]; · iexact HIr
  isplitl [H0]; · iexact H0
  rw [show (j + s.size hg.axis') * N - u = (j * N - u) + s.size hg.axis' * N by rw [Nat.add_mul]; omega, ← tallyAt_add]
  icombine Hcred Hcred' as H
  iexact H

end Streams

end
-- ==== Proof.Values.lean ====
module

public import Idealize.ShloMosaic.Lib.SparseCore.Ops
public import Idealize.ShloMosaic.Lib.SparseCore.Stream

@[expose] public section

namespace Values

open Idealize Idealize.ShloMosaic

variable {F : FTy → Type}

/-- The shape of a matrix. -/
abbrev Mat (m n : ℕ) : Shape := ⟨2, ![m, n]⟩
/-- The shape of a row of sixteen lanes. -/
abbrev Lanes : Shape := ⟨1, ![16]⟩
/-- The shape of the row of 1024 counts. -/
abbrev Bins : Shape := ⟨1, ![1024]⟩

/-- The entry of a matrix in row `r` and column `c`. -/
def at2 {m n : ℕ} (r : Fin m) (c : Fin n) : (Mat m n).Idx
  | ⟨0, _⟩ => r
  | ⟨1, _⟩ => c

/-- The place of the count of code `c`. -/
def bin (c : Fin 1024) : Bins.Idx
  | ⟨0, _⟩ => c

@[simp] theorem at2_zero {m n : ℕ} (r : Fin m) (c : Fin n) : at2 r c 0 = r := rfl
@[simp] theorem at2_one {m n : ℕ} (r : Fin m) (c : Fin n) : at2 r c 1 = c := rfl

/-- Two entries with the same row and the same column are one entry. -/
theorem mat_ext {m n : ℕ} {x y : (Mat m n).Idx} (h0 : (x 0).val = (y 0).val) (h1 : (x 1).val = (y 1).val) : x = y := by
  funext a
  match a with
  | ⟨0, _⟩ => exact Fin.ext h0
  | ⟨1, _⟩ => exact Fin.ext h1

/-- The position of the `t`-th of 1024 indices in the 8 by 128 block that holds them. -/
def entry (t : Fin 1024) : (Mat 8 128).Idx := at2 ⟨t.val / 128, by omega⟩ ⟨t.val % 128, by omega⟩

/-- The rows of a table named by a block of indices: row `t` is the row named by the `t`-th index. -/
def gathered (fi : (Mat 8 128).Idx → BitVec 32) (tb : (Mat 1024 128).Idx → Elt F .f32) : (Mat 1024 128).Idx → Elt F .f32 :=
  fun x => tb (at2 ⟨(fi (entry (x 0))).toNat % 1024, Nat.mod_lt _ (by decide)⟩ (x 1))

/-- The `n`-th group of sixteen indices of a block. -/
def lane (fi : (Mat 8 128).Idx → BitVec 32) (n : ℕ) : Lanes.Idx → BitVec 32 :=
  fun x => fi (at2 ⟨n / 8 % 8, Nat.mod_lt _ (by decide)⟩ ⟨(16 * (n % 8) + (x 0).val) % 128, Nat.mod_lt _ (by decide)⟩)

/-- Block `w` of the indices, the rows from `8 w` on. -/
def block (w : Fin 32) (ix : (Mat 256 128).Idx → BitVec 32) : (Mat 8 128).Idx → BitVec 32 :=
  fun x => ix (at2 ⟨8 * w.val + (x 0).val, by have h : (x 0).val < 8 := (x 0).isLt; omega⟩ (x 1))

/-- The position of the `t`-th of all 32768 indices. -/
def place (t : Fin 32768) : (Mat 256 128).Idx := at2 ⟨t.val / 128, by omega⟩ ⟨t.val % 128, by omega⟩

/-- The rows of a table named by all the indices: row `t` is the row named by the `t`-th index. -/
def outRows (ix : (Mat 256 128).Idx → BitVec 32) (tb : (Mat 1024 128).Idx → Elt F .f32) : (Mat 32768 128).Idx → Elt F .f32 :=
  fun x => tb (at2 ⟨(ix (place (x 0))).toNat % 1024, Nat.mod_lt _ (by decide)⟩ (x 1))

section Sums

variable [FloatOps F]

/-- The one that a scatter-add adds. -/
abbrev one32 : Elt F .f32 := FloatOps.ofBits .f32 0x3F800000#32
/-- The zero that the counts start from. -/
abbrev zero32 : Elt F .f32 := FloatOps.ofBits .f32 0x00000000#32

/-- The counts after one more of the index `w`. -/
def addOne (w : BitVec 32) (g : Bins.Idx → Elt F .f32) : Bins.Idx → Elt F .f32 :=
  fun j => if (j 0).val = w.toNat then Elt.idxAdd .f32 (g j) one32 else g j

/-- The counts after the sixteen indices of a group, taken in the order of their lanes. -/
def addLanes (v : Lanes.Idx → BitVec 32) (g : Bins.Idx → Elt F .f32) : Bins.Idx → Elt F .f32 :=
  (List.finRange 16).foldl (fun g k => addOne (v (Shape.ofLane (d := ![16]) k)) g) g

/-- The counts after the first `n` groups of a block. -/
def hist (fi : (Mat 8 128).Idx → BitVec 32) : ℕ → Bins.Idx → Elt F .f32
  | 0 => fun _ => zero32
  | n + 1 => addLanes (lane fi n) (hist fi n)

/-- The counts of all 64 groups of each block. -/
def outCounts (ix : (Mat 256 128).Idx → BitVec 32) : (Mat 32 1024).Idx → Elt F .f32 :=
  fun x => hist (block (x 0) ix) 64 (bin (x 1))

/-- A scatter-add of ones over all sixteen lanes is the counts after those sixteen indices. -/
theorem storeIdx_ones (g : Bins.Idx → Elt F .f32) (v : Lanes.Idx → BitVec 32) (one : Lanes.Idx → Elt F .f32)
    (hone : ∀ x, one x = one32) (h : ∀ a x, ((![v] : Fin 1 → IVec Lanes 32) a x).toNat < Bins.size a) :
    storeIdx (F := F) (e := .f32) g ![v] one (fun _ => 1#1) true h = addLanes v g := by
  unfold storeIdx addLanes
  refine congrArg (fun f => List.foldl f g (List.finRange 16)) ?_
  funext g k j
  show (if (1#1 : BitVec 1) = 1 then (fun j : Bins.Idx => if ∀ a, (j a).val = (idxAt ![v] h (Shape.ofLane (d := ![16]) k) a).val
    then Elt.idxAdd .f32 (g (idxAt ![v] h (Shape.ofLane (d := ![16]) k))) (one (Shape.ofLane (d := ![16]) k)) else g j) else g) j = _
  rw [if_pos (show (1#1 : BitVec 1) = 1 from rfl), hone]
  unfold addOne
  by_cases hj : (j 0).val = (v (Shape.ofLane (d := ![16]) k)).toNat
  · have hji : j = idxAt ![v] h (Shape.ofLane (d := ![16]) k) := by
      funext a; obtain rfl : a = 0 := Subsingleton.elim _ _
      exact Fin.ext hj
    rw [if_pos hj, if_pos (fun a => by rw [← hji]), ← hji]
  · rw [if_neg hj, if_neg (fun h' => hj (h' 0))]

end Sums

end Values

end
-- ==== Proof.IdealTile.lean ====
module

public import proofs.«01_k».proof.Defs
public import proofs.«01_k».proof.Proof.Streams
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending)
open Idealize.ShloMosaic.Tactic
open Values

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The ghost state: the handshakes' rounds and the transfers' counters. -/
abbrev UH : Type := URounds (GSem nD τ sig) ℕ
abbrev UU : Type := UH × Counters

local notation "𝕄" => MT nD τ sig (HIx 1) (Elt F) ℕ UU ℕ

/-! ## The task's buffers, as the task names them -/

local notation "tV" => (Memref.whole Cert.KernelIdeal.main_v0_scv : Memref Cert.KernelIdeal.sig Kind.scVector Space.hbm Cert.KernelIdeal.S1024x128 EltTy.f32)
local notation "iV" => (Memref.whole Cert.KernelIdeal.main_arg1_scv : Memref Cert.KernelIdeal.sig Kind.scVector Space.hbm Cert.KernelIdeal.S256x128 EltTy.i32)
local notation "oV" => (Memref.whole Cert.KernelIdeal.main_v1_0_scv : Memref Cert.KernelIdeal.sig Kind.scVector Space.hbm Cert.KernelIdeal.S32768x128 EltTy.f32)
local notation "hV" => (Memref.whole Cert.KernelIdeal.main_v1_1_scv : Memref Cert.KernelIdeal.sig Kind.scVector Space.hbm Cert.KernelIdeal.S32x1024 EltTy.f32)
local notation "sI" => (Memref.whole Cert.KernelIdeal.cc0_scratch0 : Memref Cert.KernelIdeal.sig Kind.scVector Space.vmem Cert.KernelIdeal.S8x128 EltTy.i32)
local notation "sG" => (Memref.whole Cert.KernelIdeal.cc0_scratch1 : Memref Cert.KernelIdeal.sig Kind.scVector Space.vmem Cert.KernelIdeal.S1024x128 EltTy.f32)
local notation "sH" => (Memref.whole Cert.KernelIdeal.cc0_scratch2 : Memref Cert.KernelIdeal.sig Kind.scVector Space.vmem Cert.KernelIdeal.S1024 EltTy.f32)

/-- The core and the subcore of a pair of coordinates. -/
abbrev cV (L : grid0.Coords) : Fin τ.nSC := (L 0).castLE hcore0
abbrev jV (L : grid0.Coords) : Fin τ.nSub := (L 1).castLE hsub0
/-- The thread of a pair of coordinates. -/
abbrev thr (d : Dev nD) (L : grid0.Coords) : Thread nD τ := V d (cV L) (jV L)

/-- All of the table, as the gathers name it. -/
abbrev tAll : Memref sig .scVector .hbm S1024x128 .f32 :=
  (tV).slice (Rect.unit (s := S1024x128) ![0, 0] S1024x128.size inb_S1024x128_S1024x128_0_0) (fun _ => rfl)

section Steps

variable (d : Dev nD) (L : grid0.Coords)
variable {α : Type}
variable (fi : (Mat 8 128).Idx → BitVec 32) (tb : (Mat 1024 128).Idx → Elt F .f32)

/-- The tile's block of indices, held at a share. -/
abbrev idxPts (q : PosShare TreeShare) : sProp 𝕄 := (sI).view.loc (thr d L) ↦{q} (fi : Buf (Elt F) ((sI).view.loc (thr d L)))
/-- The tile's row of counts. -/
abbrev cntPts (g : Bins.Idx → Elt F .f32) : sProp 𝕄 := (sH).view.loc (thr d L) ↦{fullShare} (g : Buf (Elt F) ((sH).view.loc (thr d L)))

/-! ## Loading sixteen indices and counting them -/

variable [FloatOps F]

/-- While the counts are made the tile holds a share of its indices and the counts of the first `n` groups. -/
def Sc (n : ℕ) : sProp 𝕄 := iprop(idxPts d L fi fullShare.right ∗ cntPts d L (hist fi n))

/-- Loading group `n` of the indices. -/
theorem load_step {n : ℕ} {off : Fin 2 → ℕ} (hoff : n < 64 ∧ off = ![n / 8, 16 * (n % 8)])
    {inb : ∀ a, off a + S1x16.size a ≤ S8x128.size a} {hl : (sI).view.LoadsAt (Rect.unit (s := S8x128) off S1x16.size inb).toLoadRect} {k : Vec F S1x16 .i32 → Prog (TpuEff nD τ sig (Elt F) Λ₀ (thr d L).2) α}
    {Q : α → sProp 𝕄} :
    Sc (F := F) d L fi n ⊢ iprop((∀ v, ⌜shapeCast S16 v shapeCasts_S1x16_S16 = lane fi n⌝ -∗ Sc (F := F) d L fi n
          -∗ wp frame (wpE (defs₀ (F := F)) 𝒱₀ (thr d L) none) Set.univ (k v) Q)
        -∗ wp frame (wpE (defs₀ (F := F)) 𝒱₀ (thr d L) none) Set.univ
            (Prog.lift (.load (sI) (Rect.unit (s := S8x128) off S1x16.size inb).toLoadRect hl) >>= k) Q) := by
  obtain ⟨hn, rfl⟩ := hoff
  unfold Sc
  iintro ⟨Hi, Hh⟩ Hk
  iapply (wp_load 𝒱₀ (thr d L) none Set.univ (m := sI) (q := fullShare.right) (f := fi) (hl := hl) (k := k) (S := Finset.univ) (Finset.subset_univ _)) $$ Hi
  iintro Hi
  iapply Hk
  · ipureintro
    funext x
    have hx : (x 0).val < 16 := (x 0).isLt
    have hy := Shape.rowMajor_reshapeEquiv shapeCasts_S1x16_S16 x
    rw [Shape.rowMajor_val_two, Shape.rowMajor_val_one] at hy
    show fi ((Rect.unit (s := S8x128) _ S1x16.size inb).toLoadRect.idx (Shape.reshapeEquiv shapeCasts_S1x16_S16 x)) = fi _
    have h0 : (Shape.reshapeEquiv shapeCasts_S1x16_S16 x 0).val < 1 := (Shape.reshapeEquiv shapeCasts_S1x16_S16 x 0).isLt
    have h1 : (Shape.reshapeEquiv shapeCasts_S1x16_S16 x 1).val = (x 0).val := by
      have : (Shape.reshapeEquiv shapeCasts_S1x16_S16 x 0).val * 16 + (Shape.reshapeEquiv shapeCasts_S1x16_S16 x 1).val = (x 0).val := hy
      omega
    refine congrArg fi (mat_ext ?_ ?_)
    · rw [LoadRect.idx_apply]
      show n / 8 + 1 * (Shape.reshapeEquiv shapeCasts_S1x16_S16 x 0).val = n / 8 % 8
      omega
    · rw [LoadRect.idx_apply]
      show 16 * (n % 8) + 1 * (Shape.reshapeEquiv shapeCasts_S1x16_S16 x 1).val = (16 * (n % 8) + (x 0).val) % 128
      omega
  · isplitl [Hi] <;> iassumption

/-- Group `n` of the indices passes its check: each index is below 1024. -/
theorem lane_inb (hfi : ∀ x, (fi x).toNat < 1024) {n : ℕ} {v : IVec S16 32} (hv : v = lane fi n) :
    ∀ a x, ((![v] : Fin 1 → IVec S16 32) a x).toNat < S1024.size a := by
  subst hv
  intro a x
  obtain rfl : a = 0 := Subsingleton.elim _ _
  exact hfi _

/-- A check that holds is passed. -/
theorem assume_step {P : Prop} {dc : Decidable P} (h : P) {k : PLift P → Prog (TpuEff nD τ sig (Elt F) Λ₀ (thr d L).2) α}
    {Q : α → sProp 𝕄} :
    wp frame (wpE (defs₀ (F := F)) 𝒱₀ (thr d L) none) Set.univ (k ⟨h⟩) Q
      ⊢ wp frame (wpE (defs₀ (F := F)) 𝒱₀ (thr d L) none) Set.univ (Prog.lift (.assume P dc) >>= k) Q := by
  show _ ⊢ wp frame (wpE (defs₀ (F := F)) 𝒱₀ (thr d L) none) Set.univ (.op (.assume P dc) k) Q
  rw [wp_assume_of _ _ _ _ h]

/-- Adding a one at each of the sixteen indices of group `n`. -/
theorem scatter_step {n : ℕ} {v : IVec S16 32} (hv : v = lane fi n)
    {h : ∀ a x, ((![v] : Fin 1 → IVec S16 32) a x).toNat < S1024.size a} {hs : ((sH).access (.whole S1024)).Stores Finset.univ} {k : PUnit → Prog (TpuEff nD τ sig (Elt F) Λ₀ (thr d L).2) α}
    {Q : α → sProp 𝕄} :
    Sc (F := F) d L fi n ⊢ iprop((Sc (F := F) d L fi (n + 1)
          -∗ wp frame (wpE (defs₀ (F := F)) 𝒱₀ (thr d L) none) Set.univ (k ⟨⟩) Q)
        -∗ wp frame (wpE (defs₀ (F := F)) 𝒱₀ (thr d L) none) Set.univ
            (SparseCore.vectorStoreIdx (F := F) (sH) ![v] (k0_pay2 (F := F)) (fun _ => 1#1) true h hs >>= k) Q) := by
  unfold Sc
  iintro ⟨Hi, Hh⟩ Hk
  have hset : ((sH).access (.whole S1024)).set = Finset.univ := Memref.set_access_whole (cc0_scratch2 : Ref sig .scVector)
  ihave Hh' := (Entails.of_eq (show cntPts (F := F) d L (hist fi n)
      = (((sH).access (.whole S1024)).loc (thr d L) ↦[((sH).access (.whole S1024)).set]{fullShare} (hist fi n : Buf (Elt F) (((sH).access (.whole S1024)).loc (thr d L))))
    by rw [hset])) $$ Hh
  iapply (SparseCore.wp_vectorStoreIdx 𝒱₀ (thr d L) none Set.univ (base := sH)) $$ Hh'
  iintro Hh
  iapply Hk
  isplitl [Hi]; · iexact Hi
  refine Entails.of_eq ?_
  rw [Memref.write_access_whole_univ (Elt F) (cc0_scratch2 : Ref sig .scVector), Memref.read_access_whole (Elt F) (cc0_scratch2 : Ref sig .scVector),
    Memref.set_access_whole (cc0_scratch2 : Ref sig .scVector)]
  subst hv
  exact congrArg (fun g => cntPts (F := F) d L g) (storeIdx_ones (hist fi n) (lane fi n) (k0_pay2 (F := F)) (fun _ => rfl) h)

/-- A program that returns leaves what its result leaves. -/
theorem ret_step {P : sProp 𝕄} {a : α} {Q : α → sProp 𝕄} (h : P ⊢ Q a) :
    P ⊢ wp frame (wpE (defs₀ (F := F)) 𝒱₀ (thr d L) none) Set.univ (pure a) Q := by
  rw [wp_pure]
  exact h.trans fupd_intro

end Steps

end Cert.KernelIdeal.Tile

end
-- ==== Proof.IdealGather.lean ====
module

public import proofs.«01_k».proof.Proof.IdealTile

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending bigSep_pending_zero)
open Values

variable {F : FTy → Type} [FloatOps F]

local notation "𝕄" => MT nD τ sig (HIx 1) (Elt F) ℕ UU ℕ
local notation "tV" => (Memref.whole Cert.KernelIdeal.main_v0_scv : Memref Cert.KernelIdeal.sig Kind.scVector Space.hbm Cert.KernelIdeal.S1024x128 EltTy.f32)
local notation "iV" => (Memref.whole Cert.KernelIdeal.main_arg1_scv : Memref Cert.KernelIdeal.sig Kind.scVector Space.hbm Cert.KernelIdeal.S256x128 EltTy.i32)
local notation "oV" => (Memref.whole Cert.KernelIdeal.main_v1_0_scv : Memref Cert.KernelIdeal.sig Kind.scVector Space.hbm Cert.KernelIdeal.S32768x128 EltTy.f32)
local notation "hV" => (Memref.whole Cert.KernelIdeal.main_v1_1_scv : Memref Cert.KernelIdeal.sig Kind.scVector Space.hbm Cert.KernelIdeal.S32x1024 EltTy.f32)
local notation "sI" => (Memref.whole Cert.KernelIdeal.cc0_scratch0 : Memref Cert.KernelIdeal.sig Kind.scVector Space.vmem Cert.KernelIdeal.S8x128 EltTy.i32)
local notation "sG" => (Memref.whole Cert.KernelIdeal.cc0_scratch1 : Memref Cert.KernelIdeal.sig Kind.scVector Space.vmem Cert.KernelIdeal.S1024x128 EltTy.f32)
local notation "sH" => (Memref.whole Cert.KernelIdeal.cc0_scratch2 : Memref Cert.KernelIdeal.sig Kind.scVector Space.vmem Cert.KernelIdeal.S1024 EltTy.f32)

variable (d : Dev nD) (L : grid0.Coords) (qt : PosShare TreeShare)
variable (fi : (Mat 8 128).Idx → BitVec 32) (tb : (Mat 1024 128).Idx → Elt F .f32)

/-! ## The rows of the gathers -/

/-- Row `t` of the rows' scratch. -/
abbrev rowSet (t : Fin 1024) : Finset S1024x128.Idx := ((sG).view.slice (S1024x128.rowRect 0 t)).set

omit [FloatOps F] in
theorem mem_rowSet {t : Fin 1024} {x : S1024x128.Idx} : x ∈ rowSet t ↔ (x 0).val = t.val := by
  have hs : rowSet t = (S1024x128.rowRect 0 t).set := View.set_slice_whole (cc0_scratch1 : Ref sig .scVector) _
  rw [hs]
  refine Rect.mem_set_unit.trans ?_
  have h1 : (x 1).val < 128 := (x 1).isLt
  constructor
  · intro h
    have h0 : t.val ≤ (x 0).val ∧ (x 0).val < t.val + 1 := h 0
    omega
  · intro h a
    match a with
    | ⟨0, _⟩ => exact ⟨by show t.val ≤ (x 0).val; omega, by show (x 0).val < t.val + 1; omega⟩
    | ⟨1, _⟩ => exact ⟨Nat.zero_le _, by show (x 1).val < 0 + 128; omega⟩

/-- What the transfer of row `t` takes and gives back: the row itself, the index that names its source, a share of the
    table. -/
def row (g : (Mat 1024 128).Idx → Elt F .f32) (t : Fin 1024) : sProp 𝕄 :=
  iprop(((sG).view.loc (thr d L) ↦[rowSet t]{fullShare} (g : Buf (Elt F) ((sG).view.loc (thr d L))))
    ∗ ((sI).view.loc (thr d L) ↦[{entry t}]{fullShare.left} (fi : Buf (Elt F) ((sI).view.loc (thr d L))))
    ∗ (tAll.view.loc (thr d L) ↦[tAll.view.set]{pieceOf qt 1024 (by decide) t} (tb : Buf (Elt F) (tAll.view.loc (thr d L)))))

instance row_storable (g : (Mat 1024 128).Idx → Elt F .f32) (t : Fin 1024) : Storable (upEmb : UEmb _ 𝕄) (row d L qt fi tb g t) := by
  unfold row; infer_instance

/-- The bits of one row. -/
abbrev rowBits : ℕ := 4096

/-- After the first `m` rows' transfers have been issued and none waited for. -/
def Gs (g : (Mat 1024 128).Idx → Elt F .f32) (m : ℕ) : sProp 𝕄 :=
  iprop(bigSep (pending (n := 1024) m) (row d L qt fi tb g)
    ∗ Batch countersEmb (thr d L) (.dma cc0_scratch3.sem) (default : HIx 1) rowBits (row d L qt fi tb (gathered fi tb)) m 0)

/-- Row `t` of the block of rows from `m` on is row `m + t` of the scratch. -/
theorem blockRow_eq {m : ℕ} (hm : m + 128 ≤ 1024) (inbD : ∀ a, (![m, 0] : Fin 2 → ℕ) a + S128x128.size a ≤ S1024x128.size a) (hsD) (t : Fin 128) :
    ((((sG).slice (Rect.unit (s := S1024x128) ![m, 0] S128x128.size inbD) hsD).view.slice
      (S128x128.rowRect gathers_S1024x128_S128x128.axis' t)).set : Finset S1024x128.Idx) = rowSet ⟨m + t.val, by omega⟩ := by
  have hv : ∀ (y : S128x128.Idx) a, (((sG).slice (Rect.unit (s := S1024x128) ![m, 0] S128x128.size inbD) hsD).view.emb y a).val
      = (![m, 0] : Fin 2 → ℕ) a + 1 * (y a).val := fun y a => Rect.emb_apply (Rect.unit (s := S1024x128) ![m, 0] S128x128.size inbD) y a
  ext x
  rw [mem_rowSet, View.set_slice]
  constructor
  · intro h
    obtain ⟨y, hy, rfl⟩ := Finset.mem_map.mp h
    have h0 := (Rect.mem_set_unit.mp hy) 0
    have h0' : t.val ≤ (y 0).val ∧ (y 0).val < t.val + 1 := h0
    refine (hv y 0).trans ?_
    show m + 1 * (y 0).val = m + t.val
    omega
  · intro h
    have h1 : (x 1).val < 128 := (x 1).isLt
    have h : (x 0).val = m + t.val := h
    refine Finset.mem_map.mpr ⟨at2 t (x 1), ?_, ?_⟩
    · refine Rect.mem_set_unit.mpr fun a => ?_
      match a with
      | ⟨0, _⟩ => exact ⟨le_refl _, Nat.lt_succ_self _⟩
      | ⟨1, _⟩ => exact ⟨Nat.zero_le _, by show (x 1).val < 0 + 128; omega⟩
    · refine mat_ext ?_ ?_
      · refine (hv _ 0).trans ?_
        show m + 1 * t.val = _
        omega
      · refine (hv _ 1).trans ?_
        show 0 + 1 * (x 1).val = _
        omega

/-- Entry `t` of the row of indices for the rows from `m` on is the index of row `m + t`. -/
theorem blockEntry_eq {m : ℕ} (hm : m + 128 ≤ 1024) (hm8 : m % 128 = 0) (inbI : ∀ a, (![m / 128, 0] : Fin 2 → ℕ) a + S1x128.size a ≤ S8x128.size a)
    (hsI) (t : Fin S128.numel) (ht : t.val < 128) :
    ((((sI).slice (Rect.unit (s := S8x128) ![m / 128, 0] S1x128.size inbI) hsI).squeeze S128 squeezes_S1x128_S128).view.emb
      (S128.rowMajor.symm t) : S8x128.Idx) = entry ⟨m + t.val, by omega⟩ := by
  have hz := Shape.rowMajor_reshapeEquiv (Shape.Squeezes.numel_eq squeezes_S1x128_S128) (S128.rowMajor.symm t)
  rw [Equiv.apply_symm_apply, Shape.rowMajor_val_two] at hz
  have hv : ∀ a, (((((sI).slice (Rect.unit (s := S8x128) ![m / 128, 0] S1x128.size inbI) hsI).squeeze S128 squeezes_S1x128_S128).view.emb
      (S128.rowMajor.symm t) : S8x128.Idx) a).val = (![m / 128, 0] : Fin 2 → ℕ) a
        + 1 * (Shape.reshapeEquiv (Shape.Squeezes.numel_eq squeezes_S1x128_S128) (S128.rowMajor.symm t) a).val :=
    fun a => Rect.emb_apply (Rect.unit (s := S8x128) ![m / 128, 0] S1x128.size inbI) _ a
  have hz0 : (Shape.reshapeEquiv (Shape.Squeezes.numel_eq squeezes_S1x128_S128) (S128.rowMajor.symm t) 0).val < 1 :=
    (Shape.reshapeEquiv (Shape.Squeezes.numel_eq squeezes_S1x128_S128) (S128.rowMajor.symm t) 0).isLt
  have hz' : (Shape.reshapeEquiv (Shape.Squeezes.numel_eq squeezes_S1x128_S128) (S128.rowMajor.symm t) 0).val * 128
      + (Shape.reshapeEquiv (Shape.Squeezes.numel_eq squeezes_S1x128_S128) (S128.rowMajor.symm t) 1).val = t.val := hz
  refine mat_ext ?_ ?_
  · refine (hv 0).trans ?_
    show m / 128 + 1 * _ = (m + t.val) / 128
    omega
  · refine (hv 1).trans ?_
    show 0 + 1 * _ = (m + t.val) % 128
    omega

/-- The table, as the gathers name it, is read entry by entry. -/
theorem read_tAll (x : S1024x128.Idx) : tAll.view.read (Elt F) (tb : Buf (Elt F) (tAll.view.loc (thr d L))) x = tb x := by
  rw [View.read_apply]
  refine (cast_eq _ _).trans (congrArg tb (mat_ext ?_ ?_))
  · refine (Rect.emb_apply (Rect.unit (s := S1024x128) ![0, 0] S1024x128.size inb_S1024x128_S1024x128_0_0) x 0).trans ?_
    show 0 + 1 * (x 0).val = _
    omega
  · refine (Rect.emb_apply (Rect.unit (s := S1024x128) ![0, 0] S1024x128.size inb_S1024x128_S1024x128_0_0) x 1).trans ?_
    show 0 + 1 * (x 1).val = _
    omega

/-- Issuing the gather of rows `m` to `m + 127`. -/
theorem gather_step {α : Type} (hfi : ∀ x, (fi x).toNat < 1024) {g : (Mat 1024 128).Idx → Elt F .f32} {m : ℕ} {offD offI : Fin 2 → ℕ}
    (ho : m + 128 ≤ 1024 ∧ m % 128 = 0 ∧ offD = ![m, 0] ∧ offI = ![m / 128, 0])
    {inbD : ∀ a, offD a + S128x128.size a ≤ S1024x128.size a} {inbI : ∀ a, offI a + S1x128.size a ≤ S8x128.size a}
    {hsD hsI hp hn hw he hsp hr} {k : PUnit → Prog (TpuEff nD τ sig (Elt F) Λ₀ (thr d L).2) α} {Q : α → sProp 𝕄} :
    Gs d L qt fi tb g m ⊢ iprop((Gs d L qt fi tb g (m + 128)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp tAll ((sG).slice (Rect.unit (s := S1024x128) offD S128x128.size inbD) hsD)
              gathers_S1024x128_S128x128 (((sI).slice (Rect.unit (s := S8x128) offI S1x128.size inbI) hsI).squeeze S128 squeezes_S1x128_S128)
              hn cc0_scratch3.sem hw he hsp hr >>= k) Q) := by
  obtain ⟨hm, hm8, rfl, rfl⟩ := ho
  unfold Gs
  have hR : ∀ t : Fin 128, row d L qt fi tb g ⟨m + t.val, by omega⟩
      ⊢ iprop((((sG).slice (Rect.unit (s := S1024x128) ![m, 0] S128x128.size inbD) hsD).view.loc (thr d L)
          ↦[(((sG).slice (Rect.unit (s := S1024x128) ![m, 0] S128x128.size inbD) hsD).view.slice
            (S128x128.rowRect gathers_S1024x128_S128x128.axis' t)).set]{fullShare} (g : Buf (Elt F) ((sG).view.loc (thr d L))))
        ∗ ((((sI).slice (Rect.unit (s := S8x128) ![m / 128, 0] S1x128.size inbI) hsI).squeeze S128 squeezes_S1x128_S128).view.loc (thr d L)
          ↦[{(((sI).slice (Rect.unit (s := S8x128) ![m / 128, 0] S1x128.size inbI) hsI).squeeze S128 squeezes_S1x128_S128).view.emb
            (S128.rowMajor.symm (t.cast hn.symm))}]{fullShare.left} (fi : Buf (Elt F) ((sI).view.loc (thr d L))))
        ∗ (tAll.view.loc (thr d L) ↦[tAll.view.set]{pieceOf qt 1024 (by decide) ⟨m + t.val, by omega⟩} (tb : Buf (Elt F) (tAll.view.loc (thr d L))))) := by
    intro t
    unfold row
    rw [blockRow_eq hm inbD hsD t, blockEntry_eq hm hm8 inbI hsI (t.cast hn.symm) t.isLt]
    exact Entails.rfl
  have hin : ∀ x, ((((sI).slice (Rect.unit (s := S8x128) ![m / 128, 0] S1x128.size inbI) hsI).squeeze S128 squeezes_S1x128_S128).view.read (Elt F)
      (fi : Buf (Elt F) ((sI).view.loc (thr d L))) x).toNat < S1024x128.size gathers_S1024x128_S128x128.axis := fun x => hfi _
  have hW : ∀ t : Fin 128, ∀ x ∈ rowSet ⟨m + t.val, by omega⟩,
      (((sG).slice (Rect.unit (s := S1024x128) ![m, 0] S128x128.size inbD) hsD).view.slice
        (S128x128.rowRect gathers_S1024x128_S128x128.axis' t)).write (Elt F) (g : Buf (Elt F) ((sG).view.loc (thr d L)))
          (fun y => tAll.view.read (Elt F) (tb : Buf (Elt F) (tAll.view.loc (thr d L)))
            (gathers_S1024x128_S128x128.rowIdx (SparseCore.rows ((((sI).slice (Rect.unit (s := S8x128) ![m / 128, 0] S1x128.size inbI) hsI).squeeze S128 squeezes_S1x128_S128).view.read (Elt F)
      (fi : Buf (Elt F) ((sI).view.loc (thr d L)))) hn hin t) y)) Finset.univ x = gathered fi tb x := by
    intro t x hx
    have hx0 : (x 0).val = m + t.val := mem_rowSet.mp hx
    rw [← blockRow_eq hm inbD hsD t] at hx
    obtain ⟨y, -, hy⟩ := Finset.mem_map.mp hx
    rw [← hy, View.write_emb_of_mem _ _ (Finset.mem_univ y)]
    refine (cast_eq _ _).trans ?_
    rw [hy, read_tAll]
    unfold gathered
    refine congrArg tb (mat_ext ?_ ?_)
    · refine (congrArg Fin.val (Shape.Gathers.rowIdx_axis gathers_S1024x128_S128x128 _ y)).trans ?_
      have hxt : (x 0 : Fin 1024) = ⟨m + t.val, by omega⟩ := Fin.ext hx0
      show (fi _).toNat = (fi (entry (x 0))).toNat % 1024
      rw [Nat.mod_eq_of_lt (hfi _), hxt]
      exact congrArg (fun z => (fi z).toNat) (blockEntry_eq hm hm8 inbI hsI (t.cast hn.symm) t.isLt)
    · refine (Shape.Gathers.rowIdx_of_ne gathers_S1024x128_S128x128 _ y 1 (by decide)).trans ?_
      have h1 : (x 1).val = 0 + 1 * (0 + 1 * (y 1).val) := by
        rw [← hy]
        exact (Rect.emb_apply (Rect.unit (s := S1024x128) ![m, 0] S128x128.size inbD) _ 1).trans rfl
      show (y 1).val = (x 1).val
      omega
  have hD : ∀ t : Fin 128, iprop(((((sG).slice (Rect.unit (s := S1024x128) ![m, 0] S128x128.size inbD) hsD).view.loc (thr d L)
          ↦[(((sG).slice (Rect.unit (s := S1024x128) ![m, 0] S128x128.size inbD) hsD).view.slice
            (S128x128.rowRect gathers_S1024x128_S128x128.axis' t)).set]{fullShare}
        ((((sG).slice (Rect.unit (s := S1024x128) ![m, 0] S128x128.size inbD) hsD).view.slice
          (S128x128.rowRect gathers_S1024x128_S128x128.axis' t)).write (Elt F) (g : Buf (Elt F) ((sG).view.loc (thr d L)))
          (fun y => tAll.view.read (Elt F) (tb : Buf (Elt F) (tAll.view.loc (thr d L)))
            (gathers_S1024x128_S128x128.rowIdx (SparseCore.rows ((((sI).slice (Rect.unit (s := S8x128) ![m / 128, 0] S1x128.size inbI) hsI).squeeze S128 squeezes_S1x128_S128).view.read (Elt F)
      (fi : Buf (Elt F) ((sI).view.loc (thr d L)))) hn hin t) y)) Finset.univ))
        ∗ ((((sI).slice (Rect.unit (s := S8x128) ![m / 128, 0] S1x128.size inbI) hsI).squeeze S128 squeezes_S1x128_S128).view.loc (thr d L)
          ↦[{(((sI).slice (Rect.unit (s := S8x128) ![m / 128, 0] S1x128.size inbI) hsI).squeeze S128 squeezes_S1x128_S128).view.emb
            (S128.rowMajor.symm (t.cast hn.symm))}]{fullShare.left} (fi : Buf (Elt F) ((sI).view.loc (thr d L)))))
        ∗ (tAll.view.loc (thr d L) ↦[tAll.view.set]{pieceOf qt 1024 (by decide) ⟨m + t.val, by omega⟩} (tb : Buf (Elt F) (tAll.view.loc (thr d L)))))
      ⊢ row d L qt fi tb (gathered fi tb) ⟨m + t.val, by omega⟩ := by
    intro t
    unfold row
    rw [blockRow_eq hm inbD hsD t, blockEntry_eq hm hm8 inbI hsI (t.cast hn.symm) t.isLt, pointsTo_congr (hW t)]
    iintro ⟨⟨Hr, He⟩, Ht⟩
    isplitl [Hr]; · iexact Hr
    isplitl [He]
    · iexact He
    · iexact Ht
  have h := Streams.wp_gatherIntoBatch (defs := defs₀ (F := F)) (Q := Q) countersEmb 𝒱₀ (thr d L) none (src := tAll)
    (dst := (sG).slice (Rect.unit (s := S1024x128) ![m, 0] S128x128.size inbD) hsD) (hg := gathers_S1024x128_S128x128)
    (offs := ((sI).slice (Rect.unit (s := S8x128) ![m / 128, 0] S1x128.size inbI) hsI).squeeze S128 squeezes_S1x128_S128)
    (hn := hn) (sem := cc0_scratch3.sem) (hp := hp) (hsrc := hw) (he := he) (hsp := hsp) (hr := hr) (k := k)
    (n := 1024) (j := m) (u := 0) (qo := fullShare.left)
    (qk := fun t : Fin 128 => pieceOf qt 1024 (by decide) ⟨m + t.val, by omega⟩) (fs := tb) (fd := g) (fo := fi)
    (R := row d L qt fi tb g) (D := row d L qt fi tb (gathered fi tb))
    (default : HIx 1) rowBits (fun t => (show _ = (S128x128.rowShape gathers_S1024x128_S128x128.axis').numel * 32 from rfl).trans (by decide)) hm (Nat.zero_le _) hin hR hD
  exact h

/-! ## Cutting the buffers into the rows' transfers and joining them again -/

omit [FloatOps F] in
/-- The table as the gathers name it is all of it. -/
theorem set_tAll : (tAll.view.set : Finset S1024x128.Idx) = Finset.univ := by
  have hs : (tAll.view.set : Finset S1024x128.Idx) = (Rect.unit (s := S1024x128) ![0, 0] S1024x128.size inb_S1024x128_S1024x128_0_0).set :=
    View.set_slice_whole (main_v0_scv : Ref sig .scVector) _
  rw [hs]
  refine Finset.eq_univ_iff_forall.mpr fun x => Rect.mem_set_unit.mpr fun a => ?_
  match a with
  | ⟨0, _⟩ => exact ⟨Nat.zero_le _, by have h : (x 0).val < 1024 := (x 0).isLt; show (x 0).val < 0 + 1024; omega⟩
  | ⟨1, _⟩ => exact ⟨Nat.zero_le _, by have h : (x 1).val < 128 := (x 1).isLt; show (x 1).val < 0 + 128; omega⟩

omit [FloatOps F] in
/-- Each position of the block of indices is the position of exactly one of the 1024 indices. -/
theorem entry_bijective : Function.Bijective entry := by
  constructor
  · intro t u h
    have h0 : t.val / 128 = u.val / 128 := congrArg (fun x : (Mat 8 128).Idx => (x 0).val) h
    have h1 : t.val % 128 = u.val % 128 := congrArg (fun x : (Mat 8 128).Idx => (x 1).val) h
    exact Fin.ext (by omega)
  · intro x
    have h0 : (x 0).val < 8 := (x 0).isLt
    have h1 : (x 1).val < 128 := (x 1).isLt
    refine ⟨⟨(x 0).val * 128 + (x 1).val, by omega⟩, mat_ext ?_ ?_⟩
    · show ((x 0).val * 128 + (x 1).val) / 128 = _; omega
    · show ((x 0).val * 128 + (x 1).val) % 128 = _; omega

omit [FloatOps F] in
/-- The rows' scratch, half of the indices and the table's share are what the 1024 transfers take. -/
theorem rows_eq (g : (Mat 1024 128).Idx → Elt F .f32) :
    (iprop(((sG).view.loc (thr d L) ↦{fullShare} (g : Buf (Elt F) ((sG).view.loc (thr d L))))
      ∗ idxPts (F := F) d L fi fullShare.left
      ∗ ((tV).view.loc (thr d L) ↦{qt} (tb : Buf (Elt F) ((tV).view.loc (thr d L))))) : sProp 𝕄)
      = bigSep Finset.univ (row d L qt fi tb g) := by
  have hG := pointsTo_rows (thr d L) (sG).view 0 fullShare (g : Buf (Elt F) ((sG).view.loc (thr d L))) (Val := Elt F) (Ix := HIx 1) (Name := ℕ) (U := UU) (Lvl := ℕ)
  have hI := pointsTo_entries (thr d L) (sI).view entry entry_bijective fullShare.left (fi : Buf (Elt F) ((sI).view.loc (thr d L))) (Val := Elt F) (Ix := HIx 1) (Name := ℕ) (U := UU) (Lvl := ℕ)
  have hT := pointsTo_piecesOf (Finset.univ : Finset (Idx ((tV).view.loc (thr d L)))) (tb : Buf (Elt F) ((tV).view.loc (thr d L))) (o := 1024) (by decide) qt (Val := Elt F) (Ix := HIx 1) (Name := ℕ) (U := UU) (Lvl := ℕ)
  have sG_univ : ((sG).view.set : Finset S1024x128.Idx) = Finset.univ := View.set_whole _
  have sI_univ : ((sI).view.set : Finset S8x128.Idx) = Finset.univ := View.set_whole _
  rw [sG_univ] at hG
  rw [sI_univ] at hI
  have hG' : (((sG).view.loc (thr d L) ↦{fullShare} (g : Buf (Elt F) ((sG).view.loc (thr d L)))) : sProp 𝕄)
      = bigSep (Finset.univ : Finset (Fin 1024)) fun t => (sG).view.loc (thr d L) ↦[rowSet t]{fullShare} (g : Buf (Elt F) ((sG).view.loc (thr d L))) := hG
  rw [hT]
  refine (congrArg₂ (fun A B => iprop(A ∗ B ∗ _)) hG' hI).trans ?_
  rw [← bigSep_sep', ← bigSep_sep']
  refine bigSep_congr fun t _ => ?_
  unfold row
  rw [set_tAll]
  rfl

/-! ## Waiting for the gathers -/

variable (O : CellTallies nD τ sig (HIx 1)) (W : Waits sig (HIx 1))

/-- What the tile owes, with the record of its waits: those it came with, and waits of its own. -/
def Ow : sProp 𝕄 := iprop(∃ W', ⌜∀ p ∈ W', p ∈ W ∨ p.2 = none⌝ ∗ owes (thr d L) O W')

omit [FloatOps F] in
theorem ow_insert {W' : Waits sig (HIx 1)} (hW : ∀ p ∈ W', p ∈ W ∨ p.2 = none) (sm : SemLoc sig) :
    (owes (thr d L) O (insert (sm, (default : HIx 1)) W') : sProp 𝕄)
      ⊢ iprop(∃ W', ⌜∀ p ∈ W', p ∈ W ∨ p.2 = none⌝ ∗ owes (thr d L) O W') := by
  iintro HO
  iexists (insert (sm, (default : HIx 1)) W')
  isplitr [HO]
  · ipureintro
    intro p hp
    rcases Finset.mem_insert.mp hp with hp | hp
    · rw [hp]; exact Or.inr rfl
    · exact hW p hp
  · iexact HO

/-- The gathers' transfers after `u` blocks have been waited for. -/
abbrev Gw (u : ℕ) : sProp 𝕄 :=
  Batch countersEmb (thr d L) (.dma cc0_scratch3.sem) (default : HIx 1) rowBits (row d L qt fi tb (gathered fi tb)) 1024 (u * (128 * rowBits))

omit [FloatOps F] in
theorem credit_block {off : Fin 2 → ℕ} {inb : ∀ a, off a + S128x128.size a ≤ S1024x128.size a} {hs} :
    ((sG).slice (Rect.unit (s := S1024x128) off S128x128.size inb) hs).view.dmaCredit = 128 * rowBits :=
  (show _ = S128x128.numel * 32 from rfl).trans (by decide)

/-- The wait for a block of rows that is not the last. -/
theorem wait_step {α : Type} {u : ℕ} (hu : u < 7) {off : Fin 2 → ℕ} {inb : ∀ a, off a + S128x128.size a ≤ S1024x128.size a} {hs hw hw'}
    {k : PUnit → Prog (TpuEff nD τ sig (Elt F) Λ₀ (thr d L).2) α} {Q : α → sProp 𝕄} :
    iprop(Transfers.MayWaits (thr d L) (default : HIx 1) O ∗ Gw (F := F) d L qt fi tb u ∗ Ow (F := F) d L O W)
      ⊢ iprop((iprop(Gw (F := F) d L qt fi tb (u + 1) ∗ Ow (F := F) d L O W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch3.sem tAll ((sG).slice (Rect.unit (s := S1024x128) off S128x128.size inb) hs) hw hw' >>= k) Q) := by
  unfold Ow
  iintro ⟨Hmw, Hg, %W', %hW, HO⟩ Hk
  ihave Hmw := (Transfers.MayWaits.elim (SemLoc.dma cc0_scratch3.sem)) $$ Hmw
  iapply (Transfers.wp_waitBatchMulO countersEmb 𝒱₀ (thr d L) none (default : HIx 1) (N := rowBits) 128 credit_block (k := k)
    (D := row d L qt fi tb (gathered fi tb)) (j := 1024) (u := u * (128 * rowBits)) (by show u * (128 * 4096) + 128 * 4096 ≤ 4096 * 1024; omega)) $$ [Hg HO Hmw]
  · isplitl [Hg]; · iexact Hg
    isplitl [HO]; · iexact HO
    iexact Hmw
  iintro ⟨Hg, HO⟩
  iapply Hk
  isplitl [Hg]
  · unfold Gw
    rw [show (u + 1) * (128 * rowBits) = u * (128 * rowBits) + 128 * rowBits from Nat.succ_mul _ _]
    iexact Hg
  · iapply (ow_insert d L O W hW (SemLoc.dma cc0_scratch3.sem)) $$ HO

/-- The wait for the last block gives back every row's transfer. -/
theorem wait_last {α : Type} {off : Fin 2 → ℕ} {inb : ∀ a, off a + S128x128.size a ≤ S1024x128.size a} {hs hw hw'}
    {k : PUnit → Prog (TpuEff nD τ sig (Elt F) Λ₀ (thr d L).2) α} {Q : α → sProp 𝕄} :
    iprop(Transfers.MayWaits (thr d L) (default : HIx 1) O ∗ Gw (F := F) d L qt fi tb 7 ∗ Ow (F := F) d L O W)
      ⊢ iprop((iprop(bigSep Finset.univ (row d L qt fi tb (gathered fi tb)) ∗ semVal (thr d L, .dma cc0_scratch3.sem) 0 ∗ Ow (F := F) d L O W)
          -∗ wp frame (wpE (defs₀ (F := F)) 𝒱₀ (thr d L) none) Set.univ (k ⟨⟩) Q)
        -∗ wp frame (wpE (defs₀ (F := F)) 𝒱₀ (thr d L) none) Set.univ
            (SparseCore.waitIndirectGather cc0_scratch3.sem tAll ((sG).slice (Rect.unit (s := S1024x128) off S128x128.size inb) hs) hw hw' >>= k) Q) := by
  unfold Ow
  iintro ⟨Hmw, Hg, %W', %hW, HO⟩ Hk
  ihave Hmw := (Transfers.MayWaits.elim (SemLoc.dma cc0_scratch3.sem)) $$ Hmw
  iapply (Transfers.wp_waitBatchAllO countersEmb 𝒱₀ (thr d L) none (default : HIx 1) (N := rowBits) (J := 128 * rowBits) credit_block (by decide) (k := k)
    (D := row d L qt fi tb (gathered fi tb)) (u := 7 * (128 * rowBits)) (by decide)) $$ [Hg HO Hmw]
  · isplitl [Hg]; · iexact Hg
    isplitl [HO]; · iexact HO
    iexact Hmw
  iintro ⟨Hd, Hv, HO⟩
  iapply Hk
  isplitl [Hd]; · iexact Hd
  isplitl [Hv]; · iexact Hv
  iapply (ow_insert d L O W hW (SemLoc.dma cc0_scratch3.sem)) $$ HO

end Cert.KernelIdeal.Tile

end
-- ==== Proof.IdealBlocks.lean ====
module

public import proofs.«01_k».proof.Proof.IdealGather

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Values

variable {F : FTy → Type} [FloatOps F]

local notation "𝕄" => MT nD τ sig (HIx 1) (Elt F) ℕ UU ℕ
local notation "tV" => (Memref.whole Cert.KernelIdeal.main_v0_scv : Memref Cert.KernelIdeal.sig Kind.scVector Space.hbm Cert.KernelIdeal.S1024x128 EltTy.f32)
local notation "iV" => (Memref.whole Cert.KernelIdeal.main_arg1_scv : Memref Cert.KernelIdeal.sig Kind.scVector Space.hbm Cert.KernelIdeal.S256x128 EltTy.i32)
local notation "oV" => (Memref.whole Cert.KernelIdeal.main_v1_0_scv : Memref Cert.KernelIdeal.sig Kind.scVector Space.hbm Cert.KernelIdeal.S32768x128 EltTy.f32)
local notation "hV" => (Memref.whole Cert.KernelIdeal.main_v1_1_scv : Memref Cert.KernelIdeal.sig Kind.scVector Space.hbm Cert.KernelIdeal.S32x1024 EltTy.f32)
local notation "sI" => (Memref.whole Cert.KernelIdeal.cc0_scratch0 : Memref Cert.KernelIdeal.sig Kind.scVector Space.vmem Cert.KernelIdeal.S8x128 EltTy.i32)
local notation "sG" => (Memref.whole Cert.KernelIdeal.cc0_scratch1 : Memref Cert.KernelIdeal.sig Kind.scVector Space.vmem Cert.KernelIdeal.S1024x128 EltTy.f32)
local notation "sH" => (Memref.whole Cert.KernelIdeal.cc0_scratch2 : Memref Cert.KernelIdeal.sig Kind.scVector Space.vmem Cert.KernelIdeal.S1024 EltTy.f32)

variable (d : Dev nD) (L : grid0.Coords)
variable (ix : (Mat 256 128).Idx → BitVec 32) (tb : (Mat 1024 128).Idx → Elt F .f32)

/-! ## A tile's blocks of the buffers -/

/-- The number of a tile. -/
def wid : Fin 32 := ⟨2 * (L 1).val + (L 0).val, by
  have h0 : (L 0).val < 2 := (L 0).isLt
  have h1 : (L 1).val < 16 := (L 1).isLt
  omega⟩

/-- Tile `w`'s rows of the indices. -/
def iSet (w : Fin 32) : Finset (Mat 256 128).Idx := Finset.univ.filter fun x => (x 0).val / 8 = w.val
/-- Tile `w`'s rows of the gathered rows. -/
def oSet (w : Fin 32) : Finset (Mat 32768 128).Idx := Finset.univ.filter fun x => (x 0).val / 1024 = w.val
/-- Tile `w`'s row of the counts. -/
def hSet (w : Fin 32) : Finset (Mat 32 1024).Idx := Finset.univ.filter fun x => (x 0).val = w.val

/-- The tile's rows of the indices, its rows of the gathered rows and its row of the counts, as the tile names them. -/
abbrev iK : Memref sig .scVector .hbm S8x128 .i32 := (iV).slice (Rect.unit (s := S256x128) (k0_off1 L) S8x128.size (k0_off1_inb L)) (fun _ => rfl)
abbrev oK : Memref sig .scVector .hbm S1024x128 .f32 := (oV).slice (Rect.unit (s := S32768x128) (k0_off3 L) S1024x128.size (k0_off3_inb L)) (fun _ => rfl)
abbrev hK : Memref sig .scVector .hbm S1024 .f32 :=
  ((hV).slice (Rect.unit (s := S32x1024) (k0_off4 L) S1x1024.size (k0_off4_inb L)) (fun _ => rfl)).squeeze S1024 squeezes_S1x1024_S1024

theorem emb_iK (y : S8x128.Idx) : (((iK L).view.emb y : S256x128.Idx) 0).val = 8 * (wid L).val + (y 0).val ∧ (((iK L).view.emb y : S256x128.Idx) 1).val = (y 1).val := by
  have hv : ∀ a, ((iK L).view.emb y a : ℕ) = k0_off1 L a + 1 * (y a).val :=
    fun a => Rect.emb_apply (Rect.unit (s := S256x128) (k0_off1 L) S8x128.size (k0_off1_inb L)) y a
  rw [k0_off1_eq] at hv
  constructor
  · refine (hv 0).trans ?_
    show 16 * (L 1).val + 8 * (L 0).val + 1 * (y 0).val = 8 * (2 * (L 1).val + (L 0).val) + (y 0).val
    omega
  · refine (hv 1).trans ?_
    show 0 + 1 * (y 1).val = _
    omega

theorem emb_oK (y : S1024x128.Idx) : (((oK L).view.emb y : S32768x128.Idx) 0).val = 1024 * (wid L).val + (y 0).val ∧ (((oK L).view.emb y : S32768x128.Idx) 1).val = (y 1).val := by
  have hv : ∀ a, ((oK L).view.emb y a : ℕ) = k0_off3 L a + 1 * (y a).val :=
    fun a => Rect.emb_apply (Rect.unit (s := S32768x128) (k0_off3 L) S1024x128.size (k0_off3_inb L)) y a
  rw [k0_off3_eq] at hv
  constructor
  · refine (hv 0).trans ?_
    show 2048 * (L 1).val + 1024 * (L 0).val + 1 * (y 0).val = 1024 * (2 * (L 1).val + (L 0).val) + (y 0).val
    omega
  · refine (hv 1).trans ?_
    show 0 + 1 * (y 1).val = _
    omega

theorem emb_hK (y : S1024.Idx) : (((hK L).view.emb y : S32x1024.Idx) 0).val = (wid L).val ∧ (((hK L).view.emb y : S32x1024.Idx) 1).val = (y 0).val := by
  have hv : ∀ a, ((hK L).view.emb y a : ℕ) = k0_off4 L a + 1 * (Shape.reshapeEquiv (Shape.Squeezes.numel_eq squeezes_S1x1024_S1024) y a).val :=
    fun a => Rect.emb_apply (Rect.unit (s := S32x1024) (k0_off4 L) S1x1024.size (k0_off4_inb L)) _ a
  have hz := Shape.rowMajor_reshapeEquiv (Shape.Squeezes.numel_eq squeezes_S1x1024_S1024) y
  rw [Shape.rowMajor_val_two, Shape.rowMajor_val_one] at hz
  have hz0 : (Shape.reshapeEquiv (Shape.Squeezes.numel_eq squeezes_S1x1024_S1024) y 0).val < 1 :=
    (Shape.reshapeEquiv (Shape.Squeezes.numel_eq squeezes_S1x1024_S1024) y 0).isLt
  have hz' : (Shape.reshapeEquiv (Shape.Squeezes.numel_eq squeezes_S1x1024_S1024) y 0).val * 1024
      + (Shape.reshapeEquiv (Shape.Squeezes.numel_eq squeezes_S1x1024_S1024) y 1).val = (y 0).val := hz
  rw [k0_off4_eq] at hv
  constructor
  · refine (hv 0).trans ?_
    show 2 * (L 1).val + (L 0).val + 1 * _ = 2 * (L 1).val + (L 0).val
    omega
  · refine (hv 1).trans ?_
    show 0 + 1 * _ = _
    omega

theorem set_iK : ((iK L).view.set : Finset S256x128.Idx) = iSet (wid L) := by
  ext x
  unfold iSet
  rw [Finset.mem_filter]
  constructor
  · intro h
    obtain ⟨y, -, rfl⟩ := Finset.mem_map.mp h
    have hy : (y 0).val < 8 := (y 0).isLt
    exact ⟨Finset.mem_univ _, by rw [(emb_iK L y).1]; omega⟩
  · rintro ⟨-, h⟩
    refine Finset.mem_map.mpr ⟨at2 ⟨(x 0).val % 8, Nat.mod_lt _ (by decide)⟩ (x 1), Finset.mem_univ _, mat_ext ?_ ?_⟩
    · rw [(emb_iK L _).1]; show 8 * (wid L).val + (x 0).val % 8 = _; omega
    · rw [(emb_iK L _).2]; rfl

theorem set_oK : ((oK L).view.set : Finset S32768x128.Idx) = oSet (wid L) := by
  ext x
  unfold oSet
  rw [Finset.mem_filter]
  constructor
  · intro h
    obtain ⟨y, -, rfl⟩ := Finset.mem_map.mp h
    have hy : (y 0).val < 1024 := (y 0).isLt
    exact ⟨Finset.mem_univ _, by rw [(emb_oK L y).1]; omega⟩
  · rintro ⟨-, h⟩
    refine Finset.mem_map.mpr ⟨at2 ⟨(x 0).val % 1024, Nat.mod_lt _ (by decide)⟩ (x 1), Finset.mem_univ _, mat_ext ?_ ?_⟩
    · rw [(emb_oK L _).1]; show 1024 * (wid L).val + (x 0).val % 1024 = _; omega
    · rw [(emb_oK L _).2]; rfl

theorem set_hK : ((hK L).view.set : Finset S32x1024.Idx) = hSet (wid L) := by
  ext x
  unfold hSet
  rw [Finset.mem_filter]
  constructor
  · intro h
    obtain ⟨y, -, rfl⟩ := Finset.mem_map.mp h
    exact ⟨Finset.mem_univ _, (emb_hK L y).1⟩
  · rintro ⟨-, h⟩
    refine Finset.mem_map.mpr ⟨bin (x 1), Finset.mem_univ _, mat_ext ?_ ?_⟩
    · rw [(emb_hK L _).1, h]
    · rw [(emb_hK L _).2]; rfl

/-- What the fetch of the indices brings is the tile's block of them. -/
theorem fetched_eq (f : Buf (Elt F) ((sI).view.loc (thr d L))) :
    (sI).view.write (Elt F) f ((iK L).view.read (Elt F) (ix : Buf (Elt F) ((iK L).view.loc (thr d L)))) Finset.univ
      = (block (wid L) ix : Buf (Elt F) ((sI).view.loc (thr d L))) := by
  refine (View.write_whole_univ (cc0_scratch0 : Ref sig .scVector) _ _).trans ?_
  funext y
  refine (View.read_apply _ _).trans ((cast_eq _ _).trans (congrArg ix (mat_ext ?_ ?_)))
  · exact (emb_iK L y).1
  · exact (emb_iK L y).2

/-- The tile's rows written out are its rows of the result. -/
theorem rows_written (f : Buf (Elt F) ((oK L).view.loc (thr d L))) {x : S32768x128.Idx} (hx : x ∈ oSet (wid L)) :
    (oK L).view.write (Elt F) f ((sG).view.read (Elt F) (gathered (block (wid L) ix) tb : Buf (Elt F) ((sG).view.loc (thr d L)))) Finset.univ x
      = outRows ix tb x := by
  rw [← set_oK] at hx
  obtain ⟨y, -, rfl⟩ := Finset.mem_map.mp hx
  rw [View.write_emb_of_mem _ _ (Finset.mem_univ y)]
  refine (cast_eq _ _).trans ?_
  have hy : (y 0).val < 1024 := (y 0).isLt
  show tb _ = tb _
  refine congrArg tb (mat_ext ?_ ?_)
  · show (ix _).toNat % 1024 = (ix _).toNat % 1024
    refine congrArg (fun z => (ix z).toNat % 1024) (mat_ext ?_ ?_)
    · show 8 * (wid L).val + (y 0).val / 128 = (((oK L).view.emb y : S32768x128.Idx) 0).val / 128
      rw [(emb_oK L y).1]; omega
    · show (y 0).val % 128 = (((oK L).view.emb y : S32768x128.Idx) 0).val % 128
      rw [(emb_oK L y).1]; omega
  · exact (emb_oK L y).2.symm

/-- The tile's counts written out are its row of the counts. -/
theorem counts_written (f : Buf (Elt F) ((hK L).view.loc (thr d L))) {x : S32x1024.Idx} (hx : x ∈ hSet (wid L)) :
    (hK L).view.write (Elt F) f ((sH).view.read (Elt F) (hist (block (wid L) ix) 64 : Buf (Elt F) ((sH).view.loc (thr d L)))) Finset.univ x
      = outCounts (F := F) ix x := by
  rw [← set_hK] at hx
  obtain ⟨y, -, rfl⟩ := Finset.mem_map.mp hx
  rw [View.write_emb_of_mem _ _ (Finset.mem_univ y)]
  refine (cast_eq _ _).trans ?_
  show hist (block (wid L) ix) 64 y = hist (block (((hK L).view.emb y : S32x1024.Idx) 0) ix) 64 (bin (((hK L).view.emb y : S32x1024.Idx) 1))
  rw [show ((hK L).view.emb y : S32x1024.Idx) 0 = wid L from Fin.ext (emb_hK L y).1]
  refine congrArg _ (funext fun a => ?_)
  obtain rfl : a = 0 := Subsingleton.elim _ _
  exact Fin.ext (emb_hK L y).2.symm

end Cert.KernelIdeal.Tile

end
-- ==== Proof.IdealParts.lean ====
module

public import proofs.«01_k».proof.Proof.IdealTile

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Values

variable {F : FTy → Type} [FloatOps F]

local notation "𝕄" => MT nD τ sig (HIx 1) (Elt F) ℕ UU ℕ
local notation "tV" => (Memref.whole Cert.KernelIdeal.main_v0_scv : Memref Cert.KernelIdeal.sig Kind.scVector Space.hbm Cert.KernelIdeal.S1024x128 EltTy.f32)
local notation "iV" => (Memref.whole Cert.KernelIdeal.main_arg1_scv : Memref Cert.KernelIdeal.sig Kind.scVector Space.hbm Cert.KernelIdeal.S256x128 EltTy.i32)
local notation "oV" => (Memref.whole Cert.KernelIdeal.main_v1_0_scv : Memref Cert.KernelIdeal.sig Kind.scVector Space.hbm Cert.KernelIdeal.S32768x128 EltTy.f32)
local notation "hV" => (Memref.whole Cert.KernelIdeal.main_v1_1_scv : Memref Cert.KernelIdeal.sig Kind.scVector Space.hbm Cert.KernelIdeal.S32x1024 EltTy.f32)
local notation "sI" => (Memref.whole Cert.KernelIdeal.cc0_scratch0 : Memref Cert.KernelIdeal.sig Kind.scVector Space.vmem Cert.KernelIdeal.S8x128 EltTy.i32)
local notation "sG" => (Memref.whole Cert.KernelIdeal.cc0_scratch1 : Memref Cert.KernelIdeal.sig Kind.scVector Space.vmem Cert.KernelIdeal.S1024x128 EltTy.f32)
local notation "sH" => (Memref.whole Cert.KernelIdeal.cc0_scratch2 : Memref Cert.KernelIdeal.sig Kind.scVector Space.vmem Cert.KernelIdeal.S1024 EltTy.f32)

variable (d : Dev nD) (L : grid0.Coords) (fi : (Mat 8 128).Idx → BitVec 32) (hfi : ∀ x, (fi x).toNat < 1024)

include hfi

/-- Groups 0 to 8 are counted; group 0 has been loaded. -/
theorem part3 {v : Vec F S1x16 .i32} (hv : shapeCast S16 v shapeCasts_S1x16_S16 = lane fi 0) :
    Sc (F := F) d L fi 0 ⊢ wp frame (wpE (defs₀ (F := F)) 𝒱₀ (thr d L) none) Set.univ
      (k0_part3 L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2
        (k0_pay2 (F := F)) v)
      (fun _ : BitVec 32 => Sc (F := F) d L fi 9) := by
  rw [k0_part3_eq_skeleton]; unfold k0_part3_skel
  dsimp only
  iintro H
  iapply assume_step d L (lane_inb fi hfi hv)
  iapply scatter_step d L fi hv $$ H
  iintro H
  iterate 8
    iapply (load_step d L fi ?off) $$ H
    case off => exact ⟨by decide, by rfl⟩
    iintro %v %hv H
    iapply assume_step d L (lane_inb fi hfi hv)
    iapply scatter_step d L fi hv $$ H
    iintro H
  iapply ret_step d L Entails.rfl
  iexact H

/-- Groups 9 to 16 are counted, and group 17 is loaded. -/
theorem part4 (b : BitVec 32) :
    Sc (F := F) d L fi 9 ⊢ wp frame (wpE (defs₀ (F := F)) 𝒱₀ (thr d L) none) Set.univ
      (k0_part4 L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2
        (k0_pay2 (F := F)) b)
      (fun v : Vec F S16 .i32 => iprop(⌜v = lane fi 17⌝ ∗ Sc (F := F) d L fi 17)) := by
  rw [k0_part4_eq_skeleton]; unfold k0_part4_skel
  dsimp only
  iintro H
  iterate 8
    iapply (load_step d L fi ?off) $$ H
    case off => exact ⟨by decide, by rfl⟩
    iintro %v %hv H
    iapply assume_step d L (lane_inb fi hfi hv)
    iapply scatter_step d L fi hv $$ H
    iintro H
  iapply (load_step d L fi ?off) $$ H
  case off => exact ⟨by decide, by rfl⟩
  iintro %v %hv H
  iapply ret_step d L ?post $$ H
  case post =>
    iintro H
    isplitr
    · ipureintro; exact hv
    · iexact H

/-- Groups 17 to 25 are counted; group 17 has been loaded. -/
theorem part5 {v : Vec F S16 .i32} (hv : v = lane fi 17) :
    Sc (F := F) d L fi 17 ⊢ wp frame (wpE (defs₀ (F := F)) 𝒱₀ (thr d L) none) Set.univ
      (k0_part5 L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2
        (k0_pay2 (F := F)) v)
      (fun _ : PUnit => Sc (F := F) d L fi 26) := by
  rw [k0_part5_eq_skeleton]; unfold k0_part5_skel
  dsimp only
  iintro H
  iapply assume_step d L (lane_inb fi hfi hv)
  iapply scatter_step d L fi hv $$ H
  iintro H
  iterate 8
    iapply (load_step d L fi ?off) $$ H
    case off => exact ⟨by decide, by rfl⟩
    iintro %v %hv H
    iapply assume_step d L (lane_inb fi hfi hv)
    iapply scatter_step d L fi hv $$ H
    iintro H
  iapply ret_step d L Entails.rfl
  iexact H

/-- Groups 26 to 33 are counted, and group 34 is loaded and checked. -/
theorem part6 :
    Sc (F := F) d L fi 26 ⊢ wp frame (wpE (defs₀ (F := F)) 𝒱₀ (thr d L) none) Set.univ
      (k0_part6 L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2
        (k0_pay2 (F := F)))
      (fun v : (Σ' v : Vec F S16 .i32, k0_chk35 v) => iprop(⌜v.1 = lane fi 34⌝ ∗ Sc (F := F) d L fi 34)) := by
  rw [k0_part6_eq_skeleton]; unfold k0_part6_skel
  dsimp only
  iintro H
  iterate 8
    iapply (load_step d L fi ?off) $$ H
    case off => exact ⟨by decide, by rfl⟩
    iintro %v %hv H
    iapply assume_step d L (lane_inb fi hfi hv)
    iapply scatter_step d L fi hv $$ H
    iintro H
  iapply (load_step d L fi ?off) $$ H
  case off => exact ⟨by decide, by rfl⟩
  iintro %v %hv H
  iapply assume_step d L (lane_inb fi hfi hv)
  iapply ret_step d L ?post $$ H
  case post =>
    iintro H
    isplitr
    · ipureintro; exact hv
    · iexact H

/-- Groups 34 to 42 are counted; group 34 has been loaded and checked. -/
theorem part7 {v : Vec F S16 .i32} (hv : v = lane fi 34) (hc : k0_chk35 v) :
    Sc (F := F) d L fi 34 ⊢ wp frame (wpE (defs₀ (F := F)) 𝒱₀ (thr d L) none) Set.univ
      (k0_part7 L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2
        (k0_pay2 (F := F)) v hc)
      (fun _ : PUnit => Sc (F := F) d L fi 43) := by
  rw [k0_part7_eq_skeleton]; unfold k0_part7_skel
  dsimp only
  iintro H
  iapply scatter_step d L fi hv $$ H
  iintro H
  iterate 8
    iapply (load_step d L fi ?off) $$ H
    case off => exact ⟨by decide, by rfl⟩
    iintro %v %hv H
    iapply assume_step d L (lane_inb fi hfi hv)
    iapply scatter_step d L fi hv $$ H
    iintro H
  iapply ret_step d L Entails.rfl
  iexact H

/-- Groups 43 to 51 are counted. -/
theorem part8 :
    Sc (F := F) d L fi 43 ⊢ wp frame (wpE (defs₀ (F := F)) 𝒱₀ (thr d L) none) Set.univ
      (k0_part8 L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2
        (k0_pay2 (F := F)))
      (fun _ : PUnit => Sc (F := F) d L fi 52) := by
  rw [k0_part8_eq_skeleton]; unfold k0_part8_skel
  dsimp only
  iintro H
  iterate 9
    iapply (load_step d L fi ?off) $$ H
    case off => exact ⟨by decide, by rfl⟩
    iintro %v %hv H
    iapply assume_step d L (lane_inb fi hfi hv)
    iapply scatter_step d L fi hv $$ H
    iintro H
  iapply ret_step d L Entails.rfl
  iexact H

/-- Groups 52 to 59 are counted, and group 60 is loaded. -/
theorem part9 :
    Sc (F := F) d L fi 52 ⊢ wp frame (wpE (defs₀ (F := F)) 𝒱₀ (thr d L) none) Set.univ
      (k0_part9 L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2
        (k0_pay2 (F := F)))
      (fun v : Vec F S1x16 .i32 => iprop(⌜shapeCast S16 v shapeCasts_S1x16_S16 = lane fi 60⌝ ∗ Sc (F := F) d L fi 60)) := by
  rw [k0_part9_eq_skeleton]; unfold k0_part9_skel
  dsimp only
  iintro H
  iterate 8
    iapply (load_step d L fi ?off) $$ H
    case off => exact ⟨by decide, by rfl⟩
    iintro %v %hv H
    iapply assume_step d L (lane_inb fi hfi hv)
    iapply scatter_step d L fi hv $$ H
    iintro H
  iapply (load_step d L fi ?off) $$ H
  case off => exact ⟨by decide, by rfl⟩
  iintro %v %hv H
  iapply ret_step d L ?post $$ H
  case post =>
    iintro H
    isplitr
    · ipureintro; exact hv
    · iexact H

end Cert.KernelIdeal.Tile

end
-- ==== Proof.IdealBody.lean ====
module

public import proofs.«01_k».proof.Proof.IdealBlocks
public import proofs.«01_k».proof.Proof.IdealParts

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending bigSep_pending_zero)
open Values

variable {F : FTy → Type} [FloatOps F]

local notation "𝕄" => MT nD τ sig (HIx 1) (Elt F) ℕ UU ℕ
local notation "tV" => (Memref.whole Cert.KernelIdeal.main_v0_scv : Memref Cert.KernelIdeal.sig Kind.scVector Space.hbm Cert.KernelIdeal.S1024x128 EltTy.f32)
local notation "iV" => (Memref.whole Cert.KernelIdeal.main_arg1_scv : Memref Cert.KernelIdeal.sig Kind.scVector Space.hbm Cert.KernelIdeal.S256x128 EltTy.i32)
local notation "oV" => (Memref.whole Cert.KernelIdeal.main_v1_0_scv : Memref Cert.KernelIdeal.sig Kind.scVector Space.hbm Cert.KernelIdeal.S32768x128 EltTy.f32)
local notation "hV" => (Memref.whole Cert.KernelIdeal.main_v1_1_scv : Memref Cert.KernelIdeal.sig Kind.scVector Space.hbm Cert.KernelIdeal.S32x1024 EltTy.f32)
local notation "sI" => (Memref.whole Cert.KernelIdeal.cc0_scratch0 : Memref Cert.KernelIdeal.sig Kind.scVector Space.vmem Cert.KernelIdeal.S8x128 EltTy.i32)
local notation "sG" => (Memref.whole Cert.KernelIdeal.cc0_scratch1 : Memref Cert.KernelIdeal.sig Kind.scVector Space.vmem Cert.KernelIdeal.S1024x128 EltTy.f32)
local notation "sH" => (Memref.whole Cert.KernelIdeal.cc0_scratch2 : Memref Cert.KernelIdeal.sig Kind.scVector Space.vmem Cert.KernelIdeal.S1024 EltTy.f32)

variable (d : Dev nD) (L : grid0.Coords) (qt : PosShare TreeShare)
variable (ix : (Mat 256 128).Idx → BitVec 32) (tb : (Mat 1024 128).Idx → Elt F .f32)
variable (O : CellTallies nD τ sig (HIx 1)) (W : Waits sig (HIx 1))

/-! ## Fetching the indices and issuing the gathers -/

/-- The tile's rows of the indices, in the device's memory. -/
abbrev iPts : sProp 𝕄 := (iV).view.loc (thr d L) ↦[iSet (wid L)]{fullShare} (ix : Buf (Elt F) ((iV).view.loc (thr d L)))
/-- A share of the table, in the device's memory. -/
abbrev tPts : sProp 𝕄 := (tV).view.loc (thr d L) ↦{qt} (tb : Buf (Elt F) ((tV).view.loc (thr d L)))
/-- The rows' scratch. -/
abbrev rowPts (g : (Mat 1024 128).Idx → Elt F .f32) : sProp 𝕄 := (sG).view.loc (thr d L) ↦{fullShare} (g : Buf (Elt F) ((sG).view.loc (thr d L)))

/-- Nothing issued: the gathers' transfers can be set up from the rows' scratch, half of the indices and the table's share. -/
theorem gathers_start (fi : (Mat 8 128).Idx → BitVec 32) (g : (Mat 1024 128).Idx → Elt F .f32) :
    iprop(rowPts (F := F) d L g ∗ idxPts (F := F) d L fi fullShare.left ∗ tPts (F := F) d L qt tb ∗ semVal (thr d L, .dma cc0_scratch3.sem) 0)
      ⊢ iprop(|={Set.univ}=> Gs d L qt fi tb g 0) := by
  unfold Gs
  rw [← bigSep_pending_zero, ← rows_eq d L qt fi tb g]
  iintro ⟨Hg, Hi, Ht, Hv⟩
  imod (Transfers.batch_alloc' countersEmb (thr d L) (default : HIx 1) rowBits (row d L qt fi tb (gathered fi tb)) (E := Set.univ)) $$ Hv with HB
  imodintro
  isplitr [HB]
  · isplitl [Hg]; · iexact Hg
    isplitl [Hi]; · iexact Hi
    iexact Ht
  · iexact HB

/-- Issuing a copy within the device. -/
theorem copy_step {α : Type} {sp sp' : Space} {s : Shape} {e : EltTy} {src : Memref sig .scVector sp s e} {dst : Memref sig .scVector sp' s e}
    {sem : DmaSem sig} {hsrc hdst hsem} {Sd : Finset (Idx (dst.view.loc (thr d L)))} {fs : Buf (Elt F) (src.view.loc (thr d L))}
    {fd : Buf (Elt F) (dst.view.loc (thr d L))} (N : ℕ) (hN : dst.view.amount (.dma sem) = N) (hN0 : 0 < N) (hSd : dst.view.set ⊆ Sd)
    {k : PUnit → Prog (TpuEff nD τ sig (Elt F) Λ₀ (thr d L).2) α} {Q : α → sProp 𝕄} :
    iprop((src.view.loc (thr d L) ↦[src.view.set]{fullShare} fs) ∗ (dst.view.loc (thr d L) ↦[Sd]{fullShare} fd) ∗ semVal (thr d L, .dma sem) 0)
      ⊢ iprop((Transfers.Flight countersEmb (thr d L) (.dma sem) (default : HIx 1) N
            iprop((dst.view.loc (thr d L) ↦[Sd]{fullShare} (dst.view.write (Elt F) fd (src.view.read (Elt F) fs) Finset.univ))
              ∗ (src.view.loc (thr d L) ↦[src.view.set]{fullShare} fs))
          -∗ wp frame (wpE (defs₀ (F := F)) 𝒱₀ (thr d L) none) Set.univ (k ⟨⟩) Q)
        -∗ wp frame (wpE (defs₀ (F := F)) 𝒱₀ (thr d L) none) Set.univ
            (Prog.lift (.enqueueDma (p := (thr d L).2) src (.here dst) (.dma sem) hsrc hdst hsem) >>= k) Q) :=
  by
  have h := Transfers.wp_dmaLocal (defs := defs₀ (F := F)) (Q := Q) countersEmb 𝒱₀ (thr d L) none (src := src) (dst := dst) (via := .same) (sm := .dma sem)
    (hsrc := hsrc) (hdst := hdst) (hsem := hsem) (fs := fs) (fd := fd) (q := fullShare) (default : HIx 1) N hN hN0 hSd (k := k)
  exact h

/-- Waiting for a copy gives back what it moved. -/
theorem copy_wait {α : Type} {sp sp' : Space} {s s' : Shape} {e e' : EltTy} {srcw : Memref sig .scVector sp s' e'} {dstw : Memref sig .scVector sp' s e}
    {sem : DmaSem sig} {hsrc hdst} (N : ℕ) (hN : dstw.view.dmaCredit = N) {D : sProp 𝕄}
    {k : PUnit → Prog (TpuEff nD τ sig (Elt F) Λ₀ (thr d L).2) α} {Q : α → sProp 𝕄} :
    iprop(Transfers.MayWaits (thr d L) (default : HIx 1) O ∗ Transfers.Flight countersEmb (thr d L) (.dma sem) (default : HIx 1) N D ∗ Ow (F := F) d L O W)
      ⊢ iprop((iprop(D ∗ semVal (thr d L, .dma sem) 0 ∗ Ow (F := F) d L O W)
          -∗ wp frame (wpE (defs₀ (F := F)) 𝒱₀ (thr d L) none) Set.univ (k ⟨⟩) Q)
        -∗ wp frame (wpE (defs₀ (F := F)) 𝒱₀ (thr d L) none) Set.univ
            (Prog.lift (.waitDma2 (p := (thr d L).2) sem srcw dstw hsrc hdst) >>= k) Q) := by
  unfold Ow
  iintro ⟨Hm, HF, %W', %hW, HO⟩ Hk
  ihave Hm := (Transfers.MayWaits.elim (SemLoc.dma sem)) $$ Hm
  iapply (Transfers.wp_waitLocalO countersEmb 𝒱₀ (thr d L) none (dstw := dstw) (default : HIx 1) (N := N) hN (k := k)) $$ [HF HO Hm]
  · isplitl [HF]; · iexact HF
    isplitl [HO]; · iexact HO
    iexact Hm
  iintro ⟨HD, Hs, HO⟩
  iapply Hk
  isplitl [HD]; · iexact HD
  isplitl [Hs]; · iexact Hs
  iapply (ow_insert d L O W hW (SemLoc.dma sem)) $$ HO

/-- The indices are fetched and the first three gathers issued. -/
theorem part1 (hix : ∀ x, (ix x).toNat < 1024) (f : Buf (Elt F) ((sI).view.loc (thr d L))) (g : (Mat 1024 128).Idx → Elt F .f32) :
    iprop(Transfers.MayWaits (thr d L) (default : HIx 1) O ∗ iPts (F := F) d L ix ∗ ((sI).view.loc (thr d L) ↦{fullShare} f) ∗ rowPts (F := F) d L g
        ∗ tPts (F := F) d L qt tb ∗ semVal (thr d L, .dma cc0_scoped0.sem) 0 ∗ semVal (thr d L, .dma cc0_scratch3.sem) 0 ∗ Ow (F := F) d L O W)
      ⊢ wp frame (wpE (defs₀ (F := F)) 𝒱₀ (thr d L) none) Set.univ
      (k0_part1 (F := F) L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2)
      (fun _ : BitVec 32 => iprop(iPts (F := F) d L ix ∗ idxPts (F := F) d L (block (wid L) ix) fullShare.right ∗ Gs d L qt (block (wid L) ix) tb g 384
        ∗ semVal (thr d L, .dma cc0_scoped0.sem) 0 ∗ Ow (F := F) d L O W)) := by
  rw [k0_part1_eq_skeleton]; unfold k0_part1_skel
  dsimp only
  iintro ⟨#Hmw, Hix, HI, HG, HT, HsA, HsG, HO⟩
  ihave Hix' := (Entails.of_eq (show iPts (F := F) d L ix
      = ((iK L).view.loc (thr d L) ↦[(iK L).view.set]{fullShare} (ix : Buf (Elt F) ((iK L).view.loc (thr d L)))) by rw [set_iK])) $$ Hix
  iapply (copy_step d L (src := iK L) (dst := sI) 32768 ?hN (by decide) (Finset.subset_univ _)) $$ [Hix' HI HsA]
  case hN => exact (show _ = S8x128.numel * 32 from rfl).trans (by decide)
  · isplitl [Hix']; · iexact Hix'
    isplitl [HI]; · iexact HI
    iexact HsA
  iintro HF
  iapply (copy_wait d L O W (dstw := sI) 32768 ?hN) $$ [HF HO]
  case hN => exact (show _ = S8x128.numel * 32 from rfl).trans (by decide)
  · isplitr; · iexact Hmw
    isplitl [HF] <;> iassumption
  iintro ⟨⟨HI, Hix⟩, HsA, HO⟩
  ihave HI := (Entails.of_eq (congrArg (fun h => ((sI).view.loc (thr d L) ↦{fullShare} h : sProp 𝕄)) (fetched_eq d L ix f))) $$ HI
  ihave HI := (pointsTo_share (PosShare.mem_left_op_right fullShare)).1 $$ HI
  icases HI with ⟨HIl, HIr⟩
  imod (gathers_start d L qt tb (block (wid L) ix) g) $$ [HG HIl HT HsG] with HGs
  · isplitl [HG]; · iexact HG
    isplitl [HIl]; · iexact HIl
    isplitl [HT]; · iexact HT
    iexact HsG
  have hfi : ∀ x, (block (wid L) ix x).toNat < 1024 := fun x => hix _
  iterate 3
    iapply (gather_step d L qt (block (wid L) ix) tb hfi ?ho) $$ HGs
    case ho => exact ⟨by decide, by decide, by rfl, by rfl⟩
    iintro HGs
  iapply ret_step d L Entails.rfl
  isplitl [Hix]
  · iapply (Entails.of_eq (show iPts (F := F) d L ix
      = ((iK L).view.loc (thr d L) ↦[(iK L).view.set]{fullShare} (ix : Buf (Elt F) ((iK L).view.loc (thr d L)))) by rw [set_iK]).symm) $$ Hix
  isplitl [HIr]; · iexact HIr
  isplitl [HGs]; · iexact HGs
  isplitl [HsA]; · iexact HsA
  iexact HO

/-! ## The last gathers, the zeros, and the first load -/

/-- One trip of the loop that clears the counts. -/
theorem clear_trip (t : Fin k0_t1_loop.trips) (b : BitVec 32) :
    iprop(∃ g, ⌜∀ j : Bins.Idx, (j 0).val < 16 * t.val → g j = zero32 (F := F)⌝ ∗ cntPts (F := F) d L g)
      ⊢ wp frame (wpE (defs₀ (F := F)) 𝒱₀ (thr d L) none) Set.univ
      (k0_t1_body (F := F) L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2 t b)
      (fun _ : BitVec 32 => iprop(∃ g, ⌜∀ j : Bins.Idx, (j 0).val < 16 * (t.val + 1) → g j = zero32 (F := F)⌝ ∗ cntPts (F := F) d L g)) := by
  unfold k0_t1_body
  dsimp only
  iintro ⟨%g, %hg, H⟩
  iapply (wp_load 𝒱₀ (thr d L) none Set.univ (m := sH) (q := fullShare) (f := g) (S := Finset.univ) (Finset.subset_univ _) (k := _)) $$ H
  iintro H
  iapply (wp_store 𝒱₀ (thr d L) none Set.univ (m := sH) (r := Rect.unit (s := S1024) (k0_off2 t) S16.size (k0_off2_inb t)) (w := k0_pay1 (F := F))
    (Mk := Finset.univ) (f := (g : Buf (Elt F) (((sH).access (Rect.unit (s := S1024) (k0_off2 t) S16.size (k0_off2_inb t))).loc (thr d L))))
    (S := Finset.univ) (Finset.subset_univ _) (k := _)) $$ H
  iintro H
  iapply ret_step d L Entails.rfl
  iexists (((sH).access (Rect.unit (s := S1024) (k0_off2 t) S16.size (k0_off2_inb t))).write (Elt F)
    (g : Buf (Elt F) (((sH).access (Rect.unit (s := S1024) (k0_off2 t) S16.size (k0_off2_inb t))).loc (thr d L))) (k0_pay1 (F := F)) Finset.univ)
  isplitr
  · ipureintro
    intro j hj
    have hv : ∀ y : S16.Idx, (((sH).access (Rect.unit (s := S1024) (k0_off2 t) S16.size (k0_off2_inb t))).emb y 0 : ℕ)
        = 16 * t.val + 1 * (y 0).val := fun y =>
      (Rect.emb_apply (Rect.unit (s := S1024) (k0_off2 t) S16.size (k0_off2_inb t)) y 0).trans
        (congrArg (fun z => z + 1 * (y 0).val) (congrFun (k0_off2_eq t) 0))
    by_cases hlt : (j 0).val < 16 * t.val
    · refine (View.write_of_not_mem _ _ _ fun hm => ?_).trans (hg j hlt)
      obtain ⟨y, -, hy⟩ := Finset.mem_map.mp hm
      have h0 : (j 0).val = 16 * t.val + 1 * (y 0).val := by rw [← hy]; exact hv y
      omega
    · have hj' : j = ((sH).access (Rect.unit (s := S1024) (k0_off2 t) S16.size (k0_off2_inb t))).emb
          (Shape.ofLane (d := ![16]) ⟨(j 0).val - 16 * t.val, by show _ < 16; omega⟩) := by
        funext a
        obtain rfl : a = 0 := Subsingleton.elim _ _
        refine Fin.ext ((hv _).trans ?_).symm
        show 16 * t.val + 1 * ((j 0).val - 16 * t.val) = (j 0).val
        omega
      rw [hj']
      exact (View.write_emb_of_mem _ _ (Finset.mem_univ _)).trans (cast_eq _ _)
  · iexact H

/-- The last five gathers are issued, the counts cleared and the first sixteen indices loaded. -/
theorem part2 (fi : (Mat 8 128).Idx → BitVec 32) (hfi : ∀ x, (fi x).toNat < 1024) (g : (Mat 1024 128).Idx → Elt F .f32) (c : Bins.Idx → Elt F .f32) :
    iprop(Gs d L qt fi tb g 384 ∗ idxPts (F := F) d L fi fullShare.right ∗ cntPts (F := F) d L c)
      ⊢ wp frame (wpE (defs₀ (F := F)) 𝒱₀ (thr d L) none) Set.univ
      (k0_part2 (F := F) L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2)
      (fun v => iprop(⌜v.1 = k0_pay2 (F := F) ∧ shapeCast S16 v.2 shapeCasts_S1x16_S16 = lane fi 0⌝ ∗ Gs d L qt fi tb g 1024 ∗ Sc (F := F) d L fi 0)) := by
  rw [k0_part2_eq_skeleton]; unfold k0_part2_skel
  dsimp only
  iintro ⟨HGs, HI, HC⟩
  iterate 5
    iapply (gather_step d L qt fi tb hfi ?ho) $$ HGs
    case ho => exact ⟨by decide, by decide, by rfl, by rfl⟩
    iintro HGs
  iapply (Scf.wp_for_bind frame (wpE (defs₀ (F := F)) 𝒱₀ (thr d L) none) Set.univ k0_t1_loop.lb k0_t1_loop.ub k0_t1_loop.st k0_t1_ok _ _
    (fun n _ => iprop(∃ g, ⌜∀ j : Bins.Idx, (j 0).val < 16 * n → g j = zero32 (F := F)⌝ ∗ cntPts (F := F) d L g)) (clear_trip d L)) $$ [HC]
  · iexists c
    isplitr
    · ipureintro; intro j hj; omega
    · iexact HC
  iintro %b ⟨%c', %hc', HC⟩
  have hz : c' = hist fi 0 := by
    funext j
    have hj : (j 0).val < 1024 := (j 0).isLt
    exact hc' j (by rw [show Scf.trips k0_t1_loop.lb k0_t1_loop.ub k0_t1_loop.st = 64 by decide]; omega)
  subst hz
  iapply (load_step (n := 0) d L fi ?off) $$ [HI HC]
  case off => exact ⟨by decide, by rfl⟩
  · unfold Sc
    isplitl [HI] <;> iassumption
  iintro %v %hv H
  iapply ret_step d L Entails.rfl
  isplitr
  · ipureintro; exact ⟨rfl, hv⟩
  isplitl [HGs] <;> iassumption

/-! ## The last counts, the waits for the gathers, and writing out -/

/-- The last four groups are counted and the first three blocks of rows waited for. -/
theorem part10 (fi : (Mat 8 128).Idx → BitVec 32) (hfi : ∀ x, (fi x).toNat < 1024)
    {v : Vec F S1x16 .i32} (hv : shapeCast S16 v shapeCasts_S1x16_S16 = lane fi 60) :
    iprop(Transfers.MayWaits (thr d L) (default : HIx 1) O ∗ Sc (F := F) d L fi 60 ∗ Gw (F := F) d L qt fi tb 0 ∗ Ow (F := F) d L O W)
      ⊢ wp frame (wpE (defs₀ (F := F)) 𝒱₀ (thr d L) none) Set.univ
      (k0_part10 (F := F) L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2 (k0_pay2 (F := F)) v)
      (fun _ => iprop(Sc (F := F) d L fi 64 ∗ Gw (F := F) d L qt fi tb 3 ∗ Ow (F := F) d L O W)) := by
  rw [k0_part10_eq_skeleton]; unfold k0_part10_skel
  dsimp only
  iintro ⟨#Hmw, H, HG, HO⟩
  iapply assume_step d L (lane_inb fi hfi hv)
  iapply scatter_step d L fi hv $$ H
  iintro H
  iterate 3
    iapply (load_step d L fi ?off) $$ H
    case off => exact ⟨by decide, by rfl⟩
    iintro %v %hv H
    iapply assume_step d L (lane_inb fi hfi hv)
    iapply scatter_step d L fi hv $$ H
    iintro H
  iterate 3
    iapply (wait_step d L qt fi tb O W ?hu) $$ [HG HO]
    rotate_left
    · isplitr; · iexact Hmw
      isplitl [HG] <;> iassumption
    case hu => decide
    iintro ⟨HG, HO⟩
  iapply ret_step d L Entails.rfl
  isplitl [H]; · iexact H
  isplitl [HG] <;> iassumption

/-- The last five blocks of rows are waited for and the rows are on their way out. -/
theorem part11 (b : BitVec 32) (f : (Mat 32768 128).Idx → Elt F .f32) :
    iprop(Transfers.MayWaits (thr d L) (default : HIx 1) O ∗ Gw (F := F) d L qt (block (wid L) ix) tb 3 ∗ Ow (F := F) d L O W
        ∗ ((oV).view.loc (thr d L) ↦[oSet (wid L)]{fullShare} (f : Buf (Elt F) ((oV).view.loc (thr d L)))) ∗ semVal (thr d L, .dma cc0_scoped1.sem) 0)
      ⊢ wp frame (wpE (defs₀ (F := F)) 𝒱₀ (thr d L) none) Set.univ
      (k0_part11 (F := F) L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2 b)
      (fun _ => iprop(Ow (F := F) d L O W ∗ tPts (F := F) d L qt tb ∗ idxPts (F := F) d L (block (wid L) ix) fullShare.left
        ∗ semVal (thr d L, .dma cc0_scratch3.sem) 0
        ∗ Transfers.Flight countersEmb (thr d L) (.dma cc0_scoped1.sem) (default : HIx 1) 4194304
          iprop(((oV).view.loc (thr d L) ↦[oSet (wid L)]{fullShare} (((oK L).view.write (Elt F) (f : Buf (Elt F) ((oK L).view.loc (thr d L)))
              ((sG).view.read (Elt F) (gathered (block (wid L) ix) tb : Buf (Elt F) ((sG).view.loc (thr d L)))) Finset.univ) : Buf (Elt F) ((oV).view.loc (thr d L))))
            ∗ ((sG).view.loc (thr d L) ↦[(sG).view.set]{fullShare} (gathered (block (wid L) ix) tb : Buf (Elt F) ((sG).view.loc (thr d L))))))) := by
  rw [k0_part11_eq_skeleton]; unfold k0_part11_skel
  dsimp only
  iintro ⟨#Hmw, HG, HO, Ho, Hs⟩
  iterate 4
    iapply (wait_step d L qt (block (wid L) ix) tb O W ?hu) $$ [HG HO]
    rotate_left
    · isplitr; · iexact Hmw
      isplitl [HG] <;> iassumption
    case hu => decide
    iintro ⟨HG, HO⟩
  iapply (wait_last d L qt (block (wid L) ix) tb O W) $$ [HG HO]
  · isplitr; · iexact Hmw
    isplitl [HG] <;> iassumption
  iintro ⟨HR, HsG, HO⟩
  ihave HR := (Entails.of_eq (rows_eq d L qt (block (wid L) ix) tb (gathered (block (wid L) ix) tb)).symm) $$ HR
  icases HR with ⟨HG, HI, HT⟩
  ihave HG := (Entails.of_eq (show rowPts (F := F) d L (gathered (block (wid L) ix) tb)
      = ((sG).view.loc (thr d L) ↦[(sG).view.set]{fullShare} (gathered (block (wid L) ix) tb : Buf (Elt F) ((sG).view.loc (thr d L)))) by
    rw [show ((sG).view.set : Finset S1024x128.Idx) = Finset.univ from View.set_whole _])) $$ HG
  iapply (copy_step d L (src := sG) (dst := oK L) (Sd := oSet (wid L)) (fd := f) 4194304 ?hN (by decide) ?hS) $$ [HG Ho Hs]
  case hN => exact (show _ = S1024x128.numel * 32 from rfl).trans (by decide)
  case hS => exact (set_oK L).le
  · isplitl [HG]; · iexact HG
    isplitl [Ho]; · iexact Ho
    iexact Hs
  iintro HF
  iapply ret_step d L Entails.rfl
  isplitl [HO]; · iexact HO
  isplitl [HT]; · iexact HT
  isplitl [HI]; · iexact HI
  isplitl [HsG]; · iexact HsG
  iexact HF

end Cert.KernelIdeal.Tile

end
-- ==== Proof.IdealWhole.lean ====
module

public import proofs.«01_k».proof.Proof.IdealBody

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Values

variable {F : FTy → Type} [FloatOps F]

local notation "𝕄" => MT nD τ sig (HIx 1) (Elt F) ℕ UU ℕ
local notation "tV" => (Memref.whole Cert.KernelIdeal.main_v0_scv : Memref Cert.KernelIdeal.sig Kind.scVector Space.hbm Cert.KernelIdeal.S1024x128 EltTy.f32)
local notation "iV" => (Memref.whole Cert.KernelIdeal.main_arg1_scv : Memref Cert.KernelIdeal.sig Kind.scVector Space.hbm Cert.KernelIdeal.S256x128 EltTy.i32)
local notation "oV" => (Memref.whole Cert.KernelIdeal.main_v1_0_scv : Memref Cert.KernelIdeal.sig Kind.scVector Space.hbm Cert.KernelIdeal.S32768x128 EltTy.f32)
local notation "hV" => (Memref.whole Cert.KernelIdeal.main_v1_1_scv : Memref Cert.KernelIdeal.sig Kind.scVector Space.hbm Cert.KernelIdeal.S32x1024 EltTy.f32)
local notation "sI" => (Memref.whole Cert.KernelIdeal.cc0_scratch0 : Memref Cert.KernelIdeal.sig Kind.scVector Space.vmem Cert.KernelIdeal.S8x128 EltTy.i32)
local notation "sG" => (Memref.whole Cert.KernelIdeal.cc0_scratch1 : Memref Cert.KernelIdeal.sig Kind.scVector Space.vmem Cert.KernelIdeal.S1024x128 EltTy.f32)
local notation "sH" => (Memref.whole Cert.KernelIdeal.cc0_scratch2 : Memref Cert.KernelIdeal.sig Kind.scVector Space.vmem Cert.KernelIdeal.S1024 EltTy.f32)

variable (d : Dev nD) (L : grid0.Coords)

/-! ## What a tile owns outright -/

/-- The tile's counter of a transfer's semaphore. -/
abbrev cell (s : DmaSem sig) : GSem nD τ sig := (thr d L, .dma s)
/-- A buffer of the tile's, as the device names it. -/
abbrev own (b : Ref sig .scVector) : DevRef τ sig := (Proc.scVector (cV L) (jV L)).devRef b

omit [FloatOps F] in
theorem cell_ne {s s' : DmaSem sig} (h : (SemLoc.dma s : SemLoc sig) ≠ .dma s') : cell d L s ≠ cell d L s' := fun e => h (congrArg Prod.snd e)
omit [FloatOps F] in
theorem cell_mem {s : DmaSem sig} (h : (SemLoc.dma s : SemLoc sig).isScoped .scVector = true) : cell d L s ∈ ownCells (thr d L) :=
  mem_ownCells.mpr ⟨rfl, h⟩
omit [FloatOps F] in
theorem own_ne {b b' : Ref sig .scVector} (h : b ≠ b') : own L b ≠ own L b' := fun e => h (Proc.devRef_injective _ e)

omit [FloatOps F] in
/-- The tile's counters: the gathers', the three copies' and the rest. -/
theorem counters_eq :
    (ownSems0 (thr d L) : sProp 𝕄)
      = iprop(semVal (cell d L cc0_scratch3.sem) 0 ∗ semVal (cell d L cc0_scoped0.sem) 0 ∗ semVal (cell d L cc0_scoped1.sem) 0 ∗ semVal (cell d L cc0_scoped2.sem) 0
          ∗ bigSep (((((ownCells (thr d L)).erase (cell d L cc0_scratch3.sem)).erase (cell d L cc0_scoped0.sem)).erase (cell d L cc0_scoped1.sem)).erase (cell d L cc0_scoped2.sem))
              fun g => semVal g 0) := by
  unfold SparseCore.Cfg.ownSems0
  have m0 := cell_mem d L (s := cc0_scratch3.sem) (by decide)
  have m1 := Finset.mem_erase.mpr ⟨cell_ne d L (s := cc0_scoped0.sem) (s' := cc0_scratch3.sem) (by decide), cell_mem d L (s := cc0_scoped0.sem) (by decide)⟩
  have m2 := Finset.mem_erase.mpr ⟨cell_ne d L (s := cc0_scoped1.sem) (s' := cc0_scoped0.sem) (by decide),
    Finset.mem_erase.mpr ⟨cell_ne d L (s := cc0_scoped1.sem) (s' := cc0_scratch3.sem) (by decide), cell_mem d L (s := cc0_scoped1.sem) (by decide)⟩⟩
  have m3 := Finset.mem_erase.mpr ⟨cell_ne d L (s := cc0_scoped2.sem) (s' := cc0_scoped1.sem) (by decide),
    Finset.mem_erase.mpr ⟨cell_ne d L (s := cc0_scoped2.sem) (s' := cc0_scoped0.sem) (by decide),
      Finset.mem_erase.mpr ⟨cell_ne d L (s := cc0_scoped2.sem) (s' := cc0_scratch3.sem) (by decide), cell_mem d L (s := cc0_scoped2.sem) (by decide)⟩⟩⟩
  rw [SparseCore.bigSep_erase' m0, SparseCore.bigSep_erase' m1, SparseCore.bigSep_erase' m2, SparseCore.bigSep_erase' m3]

omit [FloatOps F] in
/-- The tile's buffers: the three scratches and the rest. -/
theorem buffers_eq :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase (own L cc0_scratch0)).erase (own L cc0_scratch1)).erase (own L cc0_scratch2))
              fun b => iprop(∃ f, ((d, b) : Loc nD τ sig) ↦{fullShare} f)) := by
  unfold SparseCore.Cfg.ownBufs
  have m0 := SparseCore.Cfg.mem_ownRefs_of_owner (p := Proc.scVector (cV L) (jV L)) (b := own L cc0_scratch0) rfl
  have m1 := Finset.mem_erase.mpr ⟨own_ne L (b := cc0_scratch1) (b' := cc0_scratch0) (by decide),
    SparseCore.Cfg.mem_ownRefs_of_owner (p := Proc.scVector (cV L) (jV L)) (b := own L cc0_scratch1) rfl⟩
  have m2 := Finset.mem_erase.mpr ⟨own_ne L (b := cc0_scratch2) (b' := cc0_scratch1) (by decide),
    Finset.mem_erase.mpr ⟨own_ne L (b := cc0_scratch2) (b' := cc0_scratch0) (by decide),
      SparseCore.Cfg.mem_ownRefs_of_owner (p := Proc.scVector (cV L) (jV L)) (b := own L cc0_scratch2) rfl⟩⟩
  refine (SparseCore.bigSep_erase' m0).trans ?_
  rw [SparseCore.bigSep_erase' m1, SparseCore.bigSep_erase' m2]

variable (qt : PosShare TreeShare)
variable (ix : (Mat 256 128).Idx → BitVec 32) (tb : (Mat 1024 128).Idx → Elt F .f32)
variable (O : CellTallies nD τ sig (HIx 1)) (W : Waits sig (HIx 1))

/-- The tile's rows of the gathered rows, in the device's memory. -/
abbrev oPts (f : (Mat 32768 128).Idx → Elt F .f32) : sProp 𝕄 := (oV).view.loc (thr d L) ↦[oSet (wid L)]{fullShare} (f : Buf (Elt F) ((oV).view.loc (thr d L)))
/-- The tile's row of the counts, in the device's memory. -/
abbrev hPts (f : (Mat 32 1024).Idx → Elt F .f32) : sProp 𝕄 := (hV).view.loc (thr d L) ↦[hSet (wid L)]{fullShare} (f : Buf (Elt F) ((hV).view.loc (thr d L)))

/-- One part of the body, then what follows it. -/
theorem seq_step {α β : Type} {p : Prog (TpuEff nD τ sig (Elt F) Λ₀ (thr d L).2) α} {k : α → Prog (TpuEff nD τ sig (Elt F) Λ₀ (thr d L).2) β}
    {P : sProp 𝕄} {Q : α → sProp 𝕄} {R : β → sProp 𝕄}
    (h : P ⊢ wp frame (wpE (defs₀ (F := F)) 𝒱₀ (thr d L) none) Set.univ p Q) :
    P ⊢ iprop((∀ a, Q a -∗ wp frame (wpE (defs₀ (F := F)) 𝒱₀ (thr d L) none) Set.univ (k a) R)
      -∗ wp frame (wpE (defs₀ (F := F)) 𝒱₀ (thr d L) none) Set.univ (p >>= k) R) := by
  rw [wp_bind]
  exact h.trans (wp_wand frame _ _)

/-- Every gather issued and none waited for. -/
theorem gathers_issued (fi : (Mat 8 128).Idx → BitVec 32) (g : (Mat 1024 128).Idx → Elt F .f32) :
    Gs d L qt fi tb g 1024 ⊢ Gw (F := F) d L qt fi tb 0 := by
  unfold Gs Gw
  rw [Nat.zero_mul]
  iintro ⟨_, H⟩
  iexact H

set_option maxHeartbeats 4000000 in
/-- The whole task of a tile: from its rows of the indices and a share of the table it leaves in its rows of the result
    the rows of the table that its indices name, and in its row of the counts how often each code is among them. -/
theorem task (hix : ∀ x, (ix x).toNat < 1024) (fI : Buf (Elt F) ((thr d L).loc cc0_scratch0)) (fG : Buf (Elt F) ((thr d L).loc cc0_scratch1))
    (fH : Buf (Elt F) ((thr d L).loc cc0_scratch2)) (fo : (Mat 32768 128).Idx → Elt F .f32) (fh : (Mat 32 1024).Idx → Elt F .f32) :
    iprop(Transfers.MayWaits (thr d L) (default : HIx 1) O
        ∗ (iPts (F := F) d L ix ∗ tPts (F := F) d L qt tb ∗ oPts (F := F) d L fo ∗ hPts (F := F) d L fh)
        ∗ ((thr d L).loc cc0_scratch0 ↦{fullShare} fI) ∗ ((thr d L).loc cc0_scratch1 ↦{fullShare} fG) ∗ ((thr d L).loc cc0_scratch2 ↦{fullShare} fH)
        ∗ semVal (cell d L cc0_scratch3.sem) 0 ∗ semVal (cell d L cc0_scoped0.sem) 0 ∗ semVal (cell d L cc0_scoped1.sem) 0 ∗ semVal (cell d L cc0_scoped2.sem) 0
        ∗ Ow (F := F) d L O W)
      ⊢ wp frame (wpE (defs₀ (F := F)) 𝒱₀ (thr d L) none) Set.univ
          (cc0_k (F := F) L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2)
          fun _ => iprop((iPts (F := F) d L ix ∗ tPts (F := F) d L qt tb ∗ oPts (F := F) d L (outRows ix tb) ∗ hPts (F := F) d L (outCounts ix))
            ∗ (∃ f, (thr d L).loc cc0_scratch0 ↦{fullShare} f) ∗ (∃ f, (thr d L).loc cc0_scratch1 ↦{fullShare} f) ∗ (∃ f, (thr d L).loc cc0_scratch2 ↦{fullShare} f)
            ∗ semVal (cell d L cc0_scratch3.sem) 0 ∗ semVal (cell d L cc0_scoped0.sem) 0 ∗ semVal (cell d L cc0_scoped1.sem) 0 ∗ semVal (cell d L cc0_scoped2.sem) 0
            ∗ Ow (F := F) d L O W) := by
  have hfi : ∀ x, (block (wid L) ix x).toNat < 1024 := fun x => hix _
  rw [cc0_k_eq_skeleton]; unfold cc0_k_skel
  dsimp only
  iintro ⟨#Hmw, ⟨Hi, Ht, Ho, Hh⟩, HI, HG, HH, HsG, HsA, HsB, HsC, HO⟩
  iapply (seq_step d L (part1 d L qt ix tb O W hix fI fG)) $$ [Hi HI HG Ht HsA HsG HO]
  · isplitr; · iexact Hmw
    isplitl [Hi]; · iexact Hi
    isplitl [HI]; · iexact HI
    isplitl [HG]; · iexact HG
    isplitl [Ht]; · iexact Ht
    isplitl [HsA]; · iexact HsA
    isplitl [HsG]; · iexact HsG
    iexact HO
  iintro %_v1 ⟨Hi, HR, HGs, HsA, HO⟩
  iapply (seq_step d L (part2 d L qt tb (block (wid L) ix) hfi fG fH)) $$ [HR HGs HH]
  · isplitl [HGs]; · iexact HGs
    isplitl [HR]; · iexact HR
    iexact HH
  iintro %v ⟨%hv, HGs, HS⟩
  obtain ⟨v38, v40⟩ := v
  obtain ⟨rfl, hv⟩ := hv
  dsimp only
  iapply (seq_step d L (part3 d L _ hfi hv)) $$ HS
  iintro %_b HS
  iapply (seq_step d L (part4 d L _ hfi _)) $$ HS
  iintro %v74 ⟨%hv, HS⟩
  iapply (seq_step d L (part5 d L _ hfi hv)) $$ HS
  iintro %_b HS
  iapply (seq_step d L (part6 d L _ hfi)) $$ HS
  iintro %v ⟨%hv, HS⟩
  obtain ⟨v108, hc⟩ := v
  dsimp only
  iapply (seq_step d L (part7 d L _ hfi hv hc)) $$ HS
  iintro %_b HS
  iapply (seq_step d L (part8 d L _ hfi)) $$ HS
  iintro %_b HS
  iapply (seq_step d L (part9 d L _ hfi)) $$ HS
  iintro %v160 ⟨%hv, HS⟩
  ihave HGw := (gathers_issued d L qt tb (block (wid L) ix) fG) $$ HGs
  iapply (seq_step d L (part10 d L qt tb O W _ hfi hv)) $$ [HS HGw HO]
  · isplitr; · iexact Hmw
    isplitl [HS]; · iexact HS
    isplitl [HGw]; · iexact HGw
    iexact HO
  iintro %_b ⟨HS, HGw, HO⟩
  iapply (seq_step d L (part11 d L qt ix tb O W _ fo)) $$ [HGw HO Ho HsB]
  · isplitr; · iexact Hmw
    isplitl [HGw]; · iexact HGw
    isplitl [HO]; · iexact HO
    isplitl [Ho]; · iexact Ho
    iexact HsB
  iintro %_b ⟨HO, Ht, HL, HsG, HF⟩
  unfold Sc
  icases HS with ⟨HR, HH⟩
  iapply (copy_wait d L O W (dstw := oK L) 4194304 ?hN) $$ [HF HO]
  case hN => exact (show _ = S1024x128.numel * 32 from rfl).trans (by decide)
  · isplitr; · iexact Hmw
    isplitl [HF]; · iexact HF
    iexact HO
  iintro ⟨⟨Ho, HG⟩, HsB, HO⟩
  ihave Hh' := (Entails.of_eq (show hPts (F := F) d L fh
      = ((hK L).view.loc (thr d L) ↦[(hK L).view.set]{fullShare} (fh : Buf (Elt F) ((hK L).view.loc (thr d L)))) by rw [set_hK])) $$ Hh
  ihave HH' := (Entails.of_eq (show cntPts (F := F) d L (hist (block (wid L) ix) 64)
      = ((sH).view.loc (thr d L) ↦[(sH).view.set]{fullShare} (hist (block (wid L) ix) 64 : Buf (Elt F) ((sH).view.loc (thr d L)))) by rw [show (sH).view.set = Finset.univ from View.set_whole _])) $$ HH
  iapply (copy_step d L (src := sH) (dst := hK L) 32768 ?hN (by decide) (Finset.Subset.refl _)) $$ [Hh' HH' HsC]
  case hN => exact (show _ = S1024.numel * 32 from rfl).trans (by decide)
  · isplitl [HH']; · iexact HH'
    isplitl [Hh']; · iexact Hh'
    iexact HsC
  iintro HF
  iapply (copy_wait d L O W (dstw := hK L) 32768 ?hN) $$ [HF HO]
  case hN => exact (show _ = S1024.numel * 32 from rfl).trans (by decide)
  · isplitr; · iexact Hmw
    isplitl [HF]; · iexact HF
    iexact HO
  iintro ⟨⟨Hh, HH⟩, HsC, HO⟩
  iapply (ret_step d L .rfl)
  isplitl [Hi Ht Ho Hh]
  · isplitl [Hi]; · iexact Hi
    isplitl [Ht]; · iexact Ht
    isplitl [Ho]
    · iapply (Entails.of_eq (pointsTo_congr fun x hx => rows_written d L ix tb fo hx)) $$ Ho
    · iapply (Entails.of_eq ((show _ = _ by rw [set_hK]).trans (pointsTo_congr fun x hx => counts_written d L ix fh hx))) $$ Hh
  isplitl [HL HR]
  · iexists (block (wid L) ix)
    iapply ((pointsTo_share (PosShare.mem_left_op_right fullShare)).2) $$ [HL HR]
    isplitl [HL]; · iexact HL
    iexact HR
  isplitl [HG]
  · iexists (gathered (block (wid L) ix) tb)
    iapply (Entails.of_eq (by rw [show (sG).view.set = Finset.univ from View.set_whole _])) $$ HG
  isplitl [HH]
  · iexists (hist (block (wid L) ix) 64)
    iapply (Entails.of_eq (by rw [show (sH).view.set = Finset.univ from View.set_whole _])) $$ HH
  isplitl [HsG]; · iexact HsG
  isplitl [HsA]; · iexact HsA
  isplitl [HsB]; · iexact HsB
  isplitl [HsC]; · iexact HsC
  iexact HO

end Cert.KernelIdeal.Tile

end
-- ==== Proof.IdealLaunch.lean ====
module

public import proofs.«01_k».proof.Proof.IdealWhole

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Values

variable {F : FTy → Type}

local notation "𝕄" => MT nD τ sig (HIx 1) (Elt F) ℕ UU ℕ
local notation "tV" => (Memref.whole Cert.KernelIdeal.main_v0_scv : Memref Cert.KernelIdeal.sig Kind.scVector Space.hbm Cert.KernelIdeal.S1024x128 EltTy.f32)
local notation "iV" => (Memref.whole Cert.KernelIdeal.main_arg1_scv : Memref Cert.KernelIdeal.sig Kind.scVector Space.hbm Cert.KernelIdeal.S256x128 EltTy.i32)
local notation "oV" => (Memref.whole Cert.KernelIdeal.main_v1_0_scv : Memref Cert.KernelIdeal.sig Kind.scVector Space.hbm Cert.KernelIdeal.S32768x128 EltTy.f32)
local notation "hV" => (Memref.whole Cert.KernelIdeal.main_v1_1_scv : Memref Cert.KernelIdeal.sig Kind.scVector Space.hbm Cert.KernelIdeal.S32x1024 EltTy.f32)
local notation "sI" => (Memref.whole Cert.KernelIdeal.cc0_scratch0 : Memref Cert.KernelIdeal.sig Kind.scVector Space.vmem Cert.KernelIdeal.S8x128 EltTy.i32)
local notation "sG" => (Memref.whole Cert.KernelIdeal.cc0_scratch1 : Memref Cert.KernelIdeal.sig Kind.scVector Space.vmem Cert.KernelIdeal.S1024x128 EltTy.f32)
local notation "sH" => (Memref.whole Cert.KernelIdeal.cc0_scratch2 : Memref Cert.KernelIdeal.sig Kind.scVector Space.vmem Cert.KernelIdeal.S1024 EltTy.f32)

/-! ## The program as its launch sees it -/

theorem cores_two : (K (F := F)).nCore 0 = 2 := rfl
theorem subs_sixteen : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

abbrev wLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1_0
abbrev hLoc (d : Dev nD) : Loc nD τ sig := (SparseCore.T d).loc main_v1_1
abbrev rLoc (d : Dev nD) : Loc nD τ sig := (SparseCore.T d).loc main_v2

/-- The indices of the launch memory. -/
def codes (d : Dev nD) : (Mat 256 128).Idx → BitVec 32 := m (iLoc d)

/-- What the proof asks of the launch memory: every index is below 1024. -/
def PreOK : Prop := ∀ (d : Dev nD) (x : (Mat 256 128).Idx), (codes m d x).toNat < 1024

variable [FloatOps F]

/-- The table as the call reads it: the table given, and zeros to 128 lanes. -/
def padded (d : Dev nD) : (Mat 1024 128).Idx → Elt F .f32 :=
  pad S1024x128 ![0, 0] ![0, 64] ![0, 0] (m (wLoc d) : S1024x64.Idx → Elt F .f32) (sitofp (F := F) .f32 (constantI S_ 32 0#32)) pads_S1024x64_S1024x128_000_0640 h_S_

/-- The first result: the first 64 lanes of the gathered rows. -/
def result (d : Dev nD) : (Mat 32768 64).Idx → Elt F .f32 :=
  extractStridedSlice S32768x64 ![0, 0] (outRows (codes m d) (padded m d)) slices_S32768x128_S32768x64_0_0

/-! ## What the handshakes carry -/

/-- The number of the tile on a core and a subcore. -/
def tile (c : Fin 2) (i : Fin 16) : Fin 32 := ⟨2 * i.val + c.val, by omega⟩

/-- What tile `w` is handed: its rows of the indices, a share of the padded table, its rows of the gathered rows and its row of the counts. -/
def piece (d : Dev nD) (fo : (Mat 32768 128).Idx → Elt F .f32) (fh : (Mat 32 1024).Idx → Elt F .f32) (w : Fin 32) : sProp 𝕄 :=
  iprop((iLoc d ↦[iSet w]{fullShare} m (iLoc d)) ∗ (tLoc d ↦{pieceOf fullShare 32 (by decide) w} (padded m d : Buf (Elt F) (tLoc d)))
    ∗ (oLoc d ↦[oSet w]{fullShare} (fo : Buf (Elt F) (oLoc d))) ∗ (hLoc d ↦[hSet w]{fullShare} (fh : Buf (Elt F) (hLoc d))))

instance piece_storable (d : Dev nD) (fo : (Mat 32768 128).Idx → Elt F .f32) (fh : (Mat 32 1024).Idx → Elt F .f32) (w : Fin 32) :
    BI.Storable (upEmb : UEmb _ 𝕄) (piece m d fo fh w) := by unfold piece; infer_instance

/-- All the tiles' pieces: the four buffers of the call, whole. -/
def whole (d : Dev nD) (fo : (Mat 32768 128).Idx → Elt F .f32) (fh : (Mat 32 1024).Idx → Elt F .f32) : sProp 𝕄 :=
  iprop((iLoc d ↦{fullShare} m (iLoc d)) ∗ (tLoc d ↦{fullShare} (padded m d : Buf (Elt F) (tLoc d)))
    ∗ (oLoc d ↦{fullShare} (fo : Buf (Elt F) (oLoc d))) ∗ (hLoc d ↦{fullShare} (fh : Buf (Elt F) (hLoc d))))

/-- The pieces of one core's tiles. -/
def share (d : Dev nD) (fo : (Mat 32768 128).Idx → Elt F .f32) (fh : (Mat 32 1024).Idx → Elt F .f32) (c : Fin 2) : sProp 𝕄 :=
  bigSep Finset.univ fun i : Fin 16 => piece m d fo fh (tile c i)

instance share_storable (d : Dev nD) (fo : (Mat 32768 128).Idx → Elt F .f32) (fh : (Mat 32 1024).Idx → Elt F .f32) (c : Fin 2) :
    BI.Storable (upEmb : UEmb _ 𝕄) (share m d fo fh c) := by unfold share; infer_instance

/-- Each core is handed its tiles' pieces with the results as the launch memory has them, and hands them back with the
    results written; each tile likewise its own piece. -/
def P : (K (F := F)).Pay (nD := nD) (Val := Elt F) (Name := ℕ) (U := UU) where
  st := fun q d c => match q with | 0 => share m d (m (oLoc d)) (m (hLoc d)) (Fin.cast cores_two c)
  dn := fun q d c => match q with | 0 => share m d (outRows (codes m d) (padded m d)) (outCounts (codes m d)) (Fin.cast cores_two c)
  go := fun q d c i => match q with | 0 => piece m d (m (oLoc d)) (m (hLoc d)) (tile (Fin.cast cores_two c) (Fin.cast subs_sixteen i))
  td := fun q d c i => match q with | 0 => piece m d (outRows (codes m d) (padded m d)) (outCounts (codes m d)) (tile (Fin.cast cores_two c) (Fin.cast subs_sixteen i))
  x := fun _ _ => iprop(emp)

instance P_storable : (P (F := F) m).IsStorable where
  st q d c := match q with | 0 => share_storable m d _ _ _
  dn q d c := match q with | 0 => share_storable m d _ _ _
  go q d c i := match q with | 0 => piece_storable m d _ _ _
  td q d c i := match q with | 0 => piece_storable m d _ _ _

/-! ## One tile's task -/

set_option maxHeartbeats 1000000 in
/-- The task of the tile at `L`, from its piece and what it owns outright, back to them with the results written. -/
theorem tile_task (d : Dev nD) (L : grid0.Coords) (hF : (K (F := F)).Facts) (hpre : PreOK m)
    (O : CellTallies nD τ sig (HIx 1)) (W : Waits sig (HIx 1)) (hO : ∀ g, O g none = 0) :
    iprop(levAts (K (F := F)).L (K (F := F)).lev ∗ emp
        ∗ piece m d (m (oLoc d)) (m (hLoc d)) (wid L)
        ∗ scopedBufs (thr d L) ∗ scopedSems0 (thr d L) ∗ owes (thr d L) O W)
      ⊢ wp frame (wpE (defs₀ (F := F)) 𝒱₀ (thr d L) none) Set.univ
          (cc0_k (F := F) L tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2)
          fun _ => iprop(piece m d (outRows (codes m d) (padded m d)) (outCounts (codes m d)) (wid L)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), counters_eq, buffers_eq]
  iintro ⟨#Hlv, -, Hp, ⟨⟨%fI, HI⟩, ⟨%fG, HG⟩, ⟨%fH, HH⟩, Hbufs⟩, ⟨HsG, HsA, HsB, HsC, Hsems⟩, HO⟩
  ihave Hmw := (show levAts (K (F := F)).L (K (F := F)).lev ⊢ Transfers.MayWaits (thr d L) (default : HIx 1) O from
    (K (F := F)).mayWaits_none (thr := thr d L) hO) $$ Hlv
  ihave Hw := (task d L (pieceOf fullShare 32 (by decide) (wid L)) (codes m d) (padded m d) O W (hpre d) fI fG fH (m (oLoc d)) (m (hLoc d)))
    $$ [Hmw Hp HI HG HH HsG HsA HsB HsC HO]
  · isplitl [Hmw]; · iexact Hmw
    isplitl [Hp]
    · unfold piece; iexact Hp
    isplitl [HI]; · iexact HI
    isplitl [HG]; · iexact HG
    isplitl [HH]; · iexact HH
    isplitl [HsG]; · iexact HsG
    isplitl [HsA]; · iexact HsA
    isplitl [HsB]; · iexact HsB
    isplitl [HsC]; · iexact HsC
    unfold Ow
    iexists W
    isplitr; · ipureintro; exact fun _ h => .inl h
    iexact HO
  iapply (wp_wand_r frame _ _) $$ [Hw Hbufs Hsems]
  isplitl [Hw]; · iexact Hw
  iintro %_u ⟨Hp, HI, HG, HH, HsG, HsA, HsB, HsC, HO⟩
  isplitl [Hp]
  · unfold piece; iexact Hp
  isplitl [HI HG HH Hbufs]
  · isplitl [HI]; · iexact HI
    isplitl [HG]; · iexact HG
    isplitl [HH]; · iexact HH
    iexact Hbufs
  isplitl [HsG HsA HsB HsC Hsems]
  · isplitl [HsG]; · iexact HsG
    isplitl [HsA]; · iexact HsA
    isplitl [HsB]; · iexact HsB
    isplitl [HsC]; · iexact HsC
    iexact Hsems
  unfold Ow
  icases HO with ⟨%W', %hW', HO⟩
  iexists W'
  isplitr; · ipureintro; exact fun p hp => (hW' p hp).imp_right Or.inl
  iexact HO

/-- A core and a subcore as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _) hV (Memref.isWhole_whole _)
        sI (Memref.isWhole_whole _) sG (Memref.isWhole_whole _) sH (Memref.isWhole_whole _) cc0_scratch3 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task m d (coordsV ⟨_, hci.1⟩ ⟨_, hci.2⟩) hF hpre O W hO

/-! ## The pieces make up the buffers -/

omit [FloatOps F] in
theorem over_tiles (Φ : Fin 32 → sProp 𝕄) :
    bigSep Finset.univ Φ = bigSep Finset.univ fun c : Fin 2 => bigSep Finset.univ fun i : Fin 16 => Φ (tile c i) := by
  rw [bigSep_univ_equiv ((Equiv.prodComm (Fin 2) (Fin 16)).trans finProdFinEquiv) Φ, bigSep_univ_prod]
  refine bigSep_congr fun c _ => bigSep_congr fun i _ => congrArg Φ (Fin.ext ?_)
  show c.val + 2 * i.val = 2 * i.val + c.val
  omega

/-- A buffer whole is its parts, when every cell has one tile. -/
theorem by_tiles {ℓ : Loc nD τ sig} (f : Buf (Elt F) ℓ) (S : Fin 32 → Finset (Idx ℓ)) (t : Idx ℓ → Fin 32) (hS : ∀ w x, x ∈ S w ↔ t x = w) :
    (ℓ ↦{fullShare} f : sProp 𝕄) = bigSep Finset.univ fun w : Fin 32 => ℓ ↦[S w]{fullShare} f := by
  rw [← pointsTo_biUnion Finset.univ (ℓ := ℓ) S fun w _ w' _ hne => Finset.disjoint_left.mpr fun x hx hx' => hne (((hS w x).mp hx).symm.trans ((hS w' x).mp hx')),
    show Finset.univ.biUnion S = Finset.univ from Finset.eq_univ_iff_forall.mpr fun x => Finset.mem_biUnion.mpr ⟨t x, Finset.mem_univ _, (hS _ x).mpr rfl⟩]

theorem whole_eq (d : Dev nD) (fo : (Mat 32768 128).Idx → Elt F .f32) (fh : (Mat 32 1024).Idx → Elt F .f32) :
    whole m d fo fh = bigSep Finset.univ fun c : Fin 2 => share m d fo fh c := by
  unfold share
  rw [← over_tiles (F := F) (piece m d fo fh)]
  unfold piece whole
  rw [bigSep_sep', bigSep_sep', bigSep_sep',
    by_tiles (ℓ := iLoc d) (m (iLoc d)) iSet (fun x => ⟨((x : S256x128.Idx) 0).val / 8, by have : ((x : S256x128.Idx) 0).val < 256 := ((x : S256x128.Idx) 0).isLt; omega⟩)
      (fun w x => by simp only [iSet, Finset.mem_filter, Finset.mem_univ, true_and, Fin.ext_iff]),
    by_tiles (ℓ := oLoc d) fo oSet (fun x => ⟨((x : S32768x128.Idx) 0).val / 1024, by have : ((x : S32768x128.Idx) 0).val < 32768 := ((x : S32768x128.Idx) 0).isLt; omega⟩)
      (fun w x => by simp only [oSet, Finset.mem_filter, Finset.mem_univ, true_and, Fin.ext_iff]),
    by_tiles (ℓ := hLoc d) fh hSet (fun x => (x : S32x1024.Idx) 0)
      (fun w x => by
        simp only [hSet, Finset.mem_filter, Finset.mem_univ, true_and]
        exact Fin.ext_iff.symm),
    pointsTo_piecesOf (Finset.univ : Finset (Idx (tLoc d))) (padded m d : Buf (Elt F) (tLoc d)) (o := 32) (by decide) fullShare (Val := Elt F) (Ix := HIx 1) (Name := ℕ) (U := UU) (Lvl := ℕ)]

theorem vecSplit : (K (F := F)).VecSplit' (P m) 0 := by
  intro d c
  show share m d (m (oLoc d)) (m (hLoc d)) (Fin.cast cores_two c) ⊢ |={Set.univ}=> iprop(
      share m d (m (oLoc d)) (m (hLoc d)) (Fin.cast cores_two c)
      ∗ (share m d (outRows (codes m d) (padded m d)) (outCounts (codes m d)) (Fin.cast cores_two c)
          -∗ share m d (outRows (codes m d) (padded m d)) (outCounts (codes m d)) (Fin.cast cores_two c)))
  iintro H; imodintro
  isplitl [H]; · iexact H
  iintro H; iexact H

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.KernelIdeal.Tile

end
-- ==== Proof.IdealMain.lean ====
module

public import proofs.«01_k».proof.Proof.IdealLaunch
public import Idealize.ShloMosaic.Lib.Pipeline.Frame

@[expose] public section

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Values

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The host's program -/

section Host

variable {Λ : Labels} (defs : Defs nD τ sig (Elt F) Λ) (𝒲 : Variants)

include m in
omit [FloatOps F] in
/-- One host operation of one operand over that operand and its result. -/
theorem unary_step (d : Dev nD) (x y : Ref sig .tc) (hxy : x ≠ y) (f : x.ty.Contents (Elt F) → y.ty.Contents (Elt F)) (hx hy)
    (u : Buf (Elt F) ((SparseCore.T d : Thread nD τ).loc x)) (v : Buf (Elt F) ((SparseCore.T d : Thread nD τ).loc y)) {R : PUnit → sProp 𝕄} :
    iprop(boundary (SparseCore.T d) ∗ ((SparseCore.T d : Thread nD τ).loc x ↦{fullShare} u) ∗ ((SparseCore.T d : Thread nD τ).loc y ↦{fullShare} v))
      ⊢ iprop(((boundary (SparseCore.T d) ∗ ((SparseCore.T d : Thread nD τ).loc x ↦{fullShare} u)
            ∗ ((SparseCore.T d : Thread nD τ).loc y ↦{fullShare} (f u : Buf (Elt F) ((SparseCore.T d : Thread nD τ).loc y)))) -∗ R ⟨⟩)
        -∗ wp frame (wpE defs 𝒲 (SparseCore.T d) none) Set.univ (hlo rfl (StableHlo.unary x y f hx hy) (fun _ => .ret ⟨⟩)) R) := by
  have hne : Proc.devRef (τ := τ) .tc x ≠ Proc.devRef .tc y := StableHlo.devRef_ne_of_ne hxy
  let V : Valuation τ sig (Elt F) := Function.update (Function.update (fun b => m (d, b)) (Proc.devRef .tc x) u) (Proc.devRef .tc y) v
  have hVx : V (Proc.devRef .tc x) = u := (Function.update_of_ne hne _ _).trans (Function.update_self _ _ _)
  have hVy : V (Proc.devRef .tc y) = v := Function.update_self _ _ _
  have h := StableHlo.wp_hlo_within (defs := defs) 𝒲 (SparseCore.T d : Thread nD τ) none Set.univ (hp := rfl) (op := StableHlo.unary (τ := τ) x y f hx hy)
    (k := fun _ => .ret ⟨⟩) (S := {Proc.devRef (τ := τ) .tc x, Proc.devRef .tc y}) (Finset.Subset.refl _) (V := V) (Q := R) rfl
  unfold StableHlo.held at h
  rw [SparseCore.bigSep_insert' (by rw [Finset.mem_singleton]; exact hne), SparseCore.bigSep_insert' (by rw [Finset.mem_singleton]; exact hne),
    bigSep_singleton, bigSep_singleton, StableHlo.unary_result, StableHlo.unary_result_ne _ _ _ _ _ _ hxy, hVx, hVy] at h
  iintro H Hk
  iapply h $$ H
  iintro H
  rw [wp_ret]; imodintro
  iapply Hk; iexact H

end Host

/-- The host's operations before the call: the table padded with zeros. -/
def padding : List (HloOp τ sig (Elt F)) :=
  [StableHlo.nullary (τ := τ) (Val := Elt F) main_c (constantI S_ 32 0#32),
    StableHlo.unary (τ := τ) (Val := Elt F) main_c main_call0_v0 (fun x : S_.Idx → BitVec 32 => sitofp (F := F) .f32 x),
    StableHlo.binary (τ := τ) (Val := Elt F) main_arg0 main_call0_v0 main_v0
      (fun (x : S1024x64.Idx → Elt F .f32) (v : S_.Idx → Elt F .f32) => pad S1024x128 ![0, 0] ![0, 64] ![0, 0] x v pads_S1024x64_S1024x128_000_0640 h_S_)]

/-- The host's program: those operations, the call, and the first 64 lanes of its first result. -/
theorem main_eq (d : Dev nD) :
    main (F := F) d = (StableHlo.seq (padding (F := F)) >>= fun _ => sc.run d 0 >>= fun _ =>
      hlo rfl (StableHlo.unary (τ := τ) (Val := Elt F) main_v1_0 main_v2 (fun x : S32768x128.Idx → Elt F .f32 => extractStridedSlice S32768x64 ![0, 0] x slices_S32768x128_S32768x64_0_0))
        (fun _ => .ret PUnit.unit) >>= fun _ => pure PUnit.unit) := rfl

/-- What the operations before the call leave. -/
def prepared (d : Dev nD) : Valuation τ sig (Elt F) := StableHlo.after (padding (F := F)) fun b => m (d, b)

theorem prepared_other (d : Dev nD) {b : Ref sig .tc} (h0 : b ≠ main_v0) (h1 : b ≠ main_call0_v0) (h2 : b ≠ main_c) :
    prepared m d (Proc.devRef .tc b) = m ((SparseCore.T d).loc b) :=
  (StableHlo.binary_result_ne _ _ _ _ _ _ _ _ h0).trans ((StableHlo.unary_result_ne _ _ _ _ _ _ h1).trans (StableHlo.nullary_result_ne _ _ _ _ h2))

omit [FloatOps F] in
/-- A constant, an operation on it, and an operation on that and another buffer: the last one's result. -/
theorem three_results (g : main_c.ty.Contents (Elt F) → main_call0_v0.ty.Contents (Elt F))
    (f : main_arg0.ty.Contents (Elt F) → main_call0_v0.ty.Contents (Elt F) → main_v0.ty.Contents (Elt F)) (c : main_c.ty.Contents (Elt F)) (V : Valuation τ sig (Elt F)) :
    (StableHlo.binary (τ := τ) main_arg0 main_call0_v0 main_v0 f).result
        ((StableHlo.unary (τ := τ) main_c main_call0_v0 g).result ((StableHlo.nullary (τ := τ) main_c c).result V)) (Proc.devRef .tc main_v0)
      = f (V (Proc.devRef .tc main_arg0)) (g c) := by
  rw [StableHlo.binary_result, StableHlo.unary_result, StableHlo.unary_result_ne _ _ _ _ _ _ (by decide), StableHlo.nullary_result_ne _ _ _ _ (by decide), StableHlo.nullary_result]

theorem prepared_table (d : Dev nD) : prepared m d (Proc.devRef .tc main_v0) = padded m d := by
  unfold prepared padding padded
  rw [StableHlo.after_cons, StableHlo.after_cons, StableHlo.after_cons, StableHlo.after_nil]
  exact three_results _ _ _ _

/-- The device's buffers, one by one. -/
theorem buffers_held (d : Dev nD) (V : Valuation τ sig (Elt F)) :
    (StableHlo.held (SparseCore.T d) (Pipeline.ucRefs τ sig) V : sProp 𝕄)
      = iprop((wLoc d ↦{fullShare} V (Proc.devRef .tc main_arg0)) ∗ (iLoc d ↦{fullShare} V (Proc.devRef .tc main_arg1))
          ∗ ((SparseCore.T d).loc main_c ↦{fullShare} V (Proc.devRef .tc main_c)) ∗ ((SparseCore.T d).loc main_call0_v0 ↦{fullShare} V (Proc.devRef .tc main_call0_v0))
          ∗ (tLoc d ↦{fullShare} V (Proc.devRef .tc main_v0)) ∗ (oLoc d ↦{fullShare} V (Proc.devRef .tc main_v1_0))
          ∗ (hLoc d ↦{fullShare} V (Proc.devRef .tc main_v1_1)) ∗ (rLoc d ↦{fullShare} V (Proc.devRef .tc main_v2))) := by
  refine (Pipeline.unscopedBufs_held d V).symm.trans ?_
  unfold unscopedBufs
  rw [show (Finset.univ.filter fun b : Ref sig .tc => ¬ b.isScoped) = {main_arg0, main_arg1, main_c, main_call0_v0, main_v0, main_v1_0, main_v1_1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = whole m d (m (oLoc d)) (m (hLoc d)) :=
  (whole_eq m d _ _).symm
theorem dn0_eq (d : Dev nD) : (bigSep Finset.univ fun c : Fin ((K (F := F)).nCore 0) => (P m).dn 0 d c)
    = whole m d (outRows (codes m d) (padded m d)) (outCounts (codes m d)) := (whole_eq m d _ _).symm

/-- What the program ends holding: the arguments as they were and the results. -/
abbrev FIN (d : Dev nD) : sProp 𝕄 :=
  iprop((wLoc d ↦{fullShare} m (wLoc d)) ∗ (iLoc d ↦{fullShare} m (iLoc d)) ∗ (rLoc d ↦{fullShare} (result m d : Buf (Elt F) (rLoc d)))
    ∗ (hLoc d ↦{fullShare} (outCounts (codes m d) : Buf (Elt F) (hLoc d))))

/-- The host's program on one device. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (fun b => m (d, b)) from
    Pipeline.unscopedBufs_held d fun b => m (d, b)]
  rw [main_eq]
  iintro ⟨#Hctx, Hst, ⟨Hb, Hbufs, Hts, -⟩, -⟩
  iapply (StableHlo.wp_seq 𝒱 none Set.univ d (Pipeline.ucRefs τ sig) _ (padding (F := F)) (List.forall_iff_forall_mem.mp
    ⟨Pipeline.sub_ucRefs _ (StableHlo.nullary_bufs_sub ..), Pipeline.sub_ucRefs _ (StableHlo.unary_bufs_sub ..), Pipeline.sub_ucRefs _ (StableHlo.binary_bufs_sub ..)⟩)
    (List.forall_iff_forall_mem.mp (StableHlo.forall_fresh_of_map rfl)) (fun b => m (d, b))) $$ [Hb Hbufs]
  · isplitl [Hb]; · iexact Hb
    iexact Hbufs
  iintro ⟨Hb, H⟩
  simp only [wp_bind, wp_pure]
  ihave H := (Entails.of_eq (buffers_held d (prepared m d))) $$ [H]
  · unfold prepared; iexact H
  rw [prepared_table, prepared_other m d (b := main_arg0) (by decide) (by decide) (by decide), prepared_other m d (b := main_arg1) (by decide) (by decide) (by decide),
    prepared_other m d (b := main_v1_0) (by decide) (by decide) (by decide), prepared_other m d (b := main_v1_1) (by decide) (by decide) (by decide),
    prepared_other m d (b := main_v2) (by decide) (by decide) (by decide)]
  icases H with ⟨Hw, Hi, -, -, Ht, Ho, Hh, Hr⟩
  iapply ((K (F := F)).wp_run (D (F := F)) 𝒱 (EH := EH) (P := P m) κ d 0) $$ [Hst Hw Hi Ht Ho Hh Hr Hb Hts]
  isplitr; · iexact Hctx
  isplitl [Hst]; · iexact Hst
  isplitl [Hi Ht Ho Hh]
  · rw [st0_eq]; unfold whole
    isplitl [Hi]; · iexact Hi
    isplitl [Ht]; · iexact Ht
    isplitl [Ho]; · iexact Ho
    iexact Hh
  iintro ⟨Hst, Hdn⟩
  ihave Hdn' := (Entails.of_eq (dn0_eq m d)) $$ Hdn
  unfold whole
  icases Hdn' with ⟨Hi, -, Ho, Hh⟩
  iapply (unary_step m _ _ d main_v1_0 main_v2 (by decide) _ _ _ _ _) $$ [Hb Ho Hr]
  · isplitl [Hb]; · iexact Hb
    isplitl [Ho]; · iexact Ho
    iexact Hr
  iintro ⟨Hb, -, Hr⟩
  imodintro
  isplitl [Hst]; · iexact Hst
  isplitr [Hb Hts]
  · isplitl [Hw]; · iexact Hw
    isplitl [Hi]; · iexact Hi
    isplitl [Hr]; · iexact Hr
    iexact Hh
  isplitl [Hb] <;> iassumption

/-- A final state that has the arguments as they were and the results. -/
def fq (d : Dev nD) (s' : Phys nD τ sig (Elt F)) : Prop :=
  s'.mem.mem (wLoc d) = m (wLoc d) ∧ s'.mem.mem (iLoc d) = m (iLoc d) ∧ s'.mem.mem (rLoc d) = result m d ∧ s'.mem.mem (hLoc d) = outCounts (F := F) (codes m d)

omit [FloatOps F] in
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hw, Hi, Hr, Hh⟩, HSI⟩
  ihave H := (agree s' (wLoc d) _) $$ [Hw HSI]
  · isplitl [Hw] <;> iassumption
  icases H with ⟨%h1, HSI⟩
  ihave H := (agree s' (iLoc d) _) $$ [Hi HSI]
  · isplitl [Hi] <;> iassumption
  icases H with ⟨%h2, HSI⟩
  ihave H := (agree s' (rLoc d) _) $$ [Hr HSI]
  · isplitl [Hr] <;> iassumption
  icases H with ⟨%h3, HSI⟩
  ihave H := (agree s' (hLoc d) _) $$ [Hh HSI]
  · isplitl [Hh] <;> iassumption
  icases H with ⟨%h4, -⟩
  ipureintro; exact ⟨h1, h2, h3, h4⟩

/-- Every run ends, at a state with the arguments as they were, the results and every counter at zero. -/
theorem run_main [∀ e, Nonempty (Elt F e)] (hpre : PreOK m) :
    θ_run (Cert.KernelIdeal.defs (F := F)) (Cert.KernelIdeal.threads (F := F)) ⟨m, fun _ => 0, ρ⟩
      (fun r => (∀ c : Dev nD, r.2.mem (wLoc c) = m (wLoc c) ∧ r.2.mem (iLoc c) = m (iLoc c) ∧ r.2.mem (rLoc c) = result m c
          ∧ r.2.mem (hLoc c) = outCounts (F := F) (codes m c)) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)
end Cert.KernelIdeal.Tile

end
-- ==== Proof.Counts.lean ====
module

public import proofs.«01_k».proof.Proof.Values
public import Idealize.ShloMosaic.PureOps.Ideal.Laws
public import Idealize.ShloMosaic.Lib.IdealHost

@[expose] public section

noncomputable section

namespace Values

open Idealize Idealize.ShloMosaic

/-- One if the index `w` names the place `j`, and zero otherwise. -/
def hit (w : BitVec 32) (j : Bins.Idx) : EReal := if (j 0).val = w.toNat then 1 else 0

/-- Over the extended reals one more index adds its hit to every count. -/
theorem addOne_exact (w : BitVec 32) (g : Bins.Idx → Elt Ideal .f32) (j : Bins.Idx) :
    addOne (F := Ideal) w g j = ((g j : EReal) + hit w j : EReal) := by
  have h1 : (one32 : Elt Ideal .f32) = (1 : EReal) := Ideal.ofBits_one_f32
  unfold addOne hit
  by_cases h : (j 0).val = w.toNat
  · rw [if_pos h, if_pos h, h1]
    rfl
  · rw [if_neg h, if_neg h]
    exact (add_zero (g j : EReal)).symm

/-- Over the extended reals a list of indices adds the sum of its hits to every count. -/
theorem foldl_exact {ι : Type} (v : ι → BitVec 32) (j : Bins.Idx) : ∀ (l : List ι) (g : Bins.Idx → Elt Ideal .f32),
    l.foldl (fun g k => addOne (F := Ideal) (v k) g) g j = ((g j : EReal) + (l.map fun k => hit (v k) j).sum : EReal)
  | [], g => (add_zero (g j : EReal)).symm
  | k :: l, g => by
    rw [List.foldl_cons, foldl_exact v j l, addOne_exact, List.map_cons, List.sum_cons, add_assoc]

/-- The place of lane `k` in a row of sixteen lanes. -/
def laneAt (k : Fin 16) : Lanes.Idx := Shape.ofLane (d := ![16]) k

/-- Over the extended reals the counts after `n` groups are the sums of the hits of those groups' indices. -/
theorem hist_exact (fi : (Mat 8 128).Idx → BitVec 32) (j : Bins.Idx) : ∀ n : ℕ,
    hist (F := Ideal) fi n j = (∑ p : Fin n, ∑ k : Fin 16, hit (lane fi p.val (laneAt k)) j : EReal)
  | 0 => by
    show (zero32 : Elt Ideal .f32) = _
    exact Ideal.ofBits_zero_f32
  | n + 1 => by
    rw [Fin.sum_univ_castSucc, Fin.sum_univ_def (fun k : Fin 16 => hit (lane fi (Fin.last n).val (laneAt k)) j)]
    refine (foldl_exact (fun k => lane fi n (laneAt k)) j (List.finRange 16) (hist fi n)).trans ?_
    rw [hist_exact fi j n]
    rfl

/-- Over the extended reals the counts of a block are the sums of the hits of its 1024 indices. -/
theorem counts_exact (fi : (Mat 8 128).Idx → BitVec 32) (j : Bins.Idx) :
    hist (F := Ideal) fi 64 j = (∑ t : Fin 1024, hit (fi (entry t)) j : EReal) := by
  rw [hist_exact, ← Fintype.sum_prod_type' (fun (p : Fin 64) (k : Fin 16) => hit (lane fi p.val (laneAt k)) j)]
  refine Fintype.sum_equiv (finProdFinEquiv : Fin 64 × Fin 16 ≃ Fin 1024) _ _ ?_
  rintro ⟨p, k⟩
  have hp := p.isLt
  have hk := k.isLt
  have e : (finProdFinEquiv (p, k) : Fin 1024).val = k.val + 16 * p.val := rfl
  refine congrArg (fun x => hit (fi x) j) (mat_ext ?_ ?_)
  · show p.val / 8 % 8 = (finProdFinEquiv (p, k) : Fin 1024).val / 128
    omega
  · show (16 * (p.val % 8) + k.val) % 128 = (finProdFinEquiv (p, k) : Fin 1024).val % 128
    omega

end Values

end

end
-- ==== Proof.Range.lean ====
module

public import proofs.«01_k».proof.Pre_idx_in_range
public import Idealize.ShloMosaic.PureOps
public import proofs.«01_k».proof.Proof.Values
import Idealize.ShloMosaic.Lib.StableHlo.Predicate

@[expose] public section

namespace Range

open Idealize Idealize.ShloMosaic Values

/-- The conjunction of two bits is one just when both are. -/
theorem and_bits (a b : BitVec 1) : IntOp.andi a b = 1#1 ↔ a = 1#1 ∧ b = 1#1 := by
  revert a b
  decide

/-- A conjunction along a list is one just when the bit it starts from and every bit along the list are. -/
theorem and_list {ι : Type} (f : ι → BitVec 1) : ∀ (l : List ι) (b : BitVec 1),
    l.foldl (fun r n => IntOp.andi r (f n)) b = 1#1 ↔ b = 1#1 ∧ ∀ n ∈ l, f n = 1#1
  | [], b => by simp
  | k :: l, b => by
    rw [List.foldl_cons, and_list f l, and_bits, List.forall_mem_cons, and_assoc]

/-- A reduction by conjunction is one just when its first value and all the entries that it reduces are. -/
theorem and_reduce {s t u : Shape} {axes : List (Fin s.rank)} (x : s.Idx → BitVec 1) (b : u.Idx → BitVec 1)
    (h : s.ReducesTo axes t) (hu : 0 < u.numel) (j : t.Idx) :
    Host.reduce IntOp.andi x b h hu j = 1#1 ↔ b (Shape.Idx.first hu) = 1#1 ∧ ∀ i, h.drop i = j → x i = 1#1 := by
  unfold Host.reduce
  rw [and_list (fun n => x (s.rowMajor.symm n))]
  refine and_congr Iff.rfl ⟨fun H i hi => ?_, fun H n hn => ?_⟩
  · have := H (s.rowMajor i) (List.mem_filter.2 ⟨List.mem_finRange _, by simpa using hi⟩)
    simpa using this
  · exact H _ (by simpa using (List.mem_filter.1 hn).2)

/-- A word between zero and 1024, read with its sign, is below 1024 read without. -/
theorem word_lt (w : BitVec 32) (h0 : IntOp.cmpi .sge w 0#32 = 1#1) (h1 : IntOp.cmpi .slt w 1024#32 = 1#1) : w.toNat < 1024 := by
  have a : (0#32 : BitVec 32).sle w = true := (StableHlo.Predicate.ofBool_eq_one_iff _).1 h0
  have b : w.slt 1024#32 = true := (StableHlo.Predicate.ofBool_eq_one_iff _).1 h1
  rw [BitVec.sle_eq_decide, decide_eq_true_eq] at a
  rw [BitVec.slt_eq_decide, decide_eq_true_eq] at b
  rw [show (0#32 : BitVec 32).toInt = 0 from rfl] at a
  rw [show (1024#32 : BitVec 32).toInt = 1024 from rfl] at b
  rw [BitVec.toInt_eq_toNat_cond] at a b
  have := w.isLt
  split at a <;> omega

variable {F : FTy → Type} [FloatOps F]

/-- Where the precondition holds every index is below 1024. -/
theorem in_range [Cert.Pre_idx_in_range.Facts] (w : FVec F Cert.Pre_idx_in_range.S1024x64 .f32)
    (ix : IVec Cert.Pre_idx_in_range.S256x128 32) (h : Cert.Pre_idx_in_range.fn w ix = fun _ => 1#1) (x : (Mat 256 128).Idx) :
    (ix x).toNat < 1024 := by
  have H := (and_reduce _ _ _ _ _).1 (congrFun h (fun a => a.elim0))
  have e := (and_bits _ _).1 (H.2 x (funext fun a => a.elim0))
  exact word_lt _ e.1 e.2

end Range

end
-- ==== Proof.Reference.lean ====
module

public import proofs.«01_k».proof.Proof.Gen.ReferenceIdeal.Run
public import proofs.«01_k».proof.Proof.Counts
public import proofs.«01_k».proof.Proof.Range
public import Idealize.ShloMosaic.Lib.Pointwise.Index
import Idealize.ShloMosaic.Lib.Pointwise.Reduce
import Idealize.ShloMosaic.Lib.StableHlo.Predicate
import Idealize.ShloMosaic.Lib.Pointwise.Reshape
import Idealize.ShloMosaic.Lib.Routing.Ops

@[expose] public section

noncomputable section

namespace Cert.ReferenceIdeal.Value

open Cert.ReferenceIdeal Cert.ReferenceIdeal.Gen Idealize Idealize.ShloMosaic Values

/-- All indices in one row, one after the other. -/
def flat (ix : IVec S256x128 32) : IVec S32768 32 := shapeCast _ ix shapeCasts_S256x128_S32768

/-- The indices as a lookup reads them, a negative one counted from the end of the table. -/
def wrapped (ix : IVec S256x128 32) : IVec S32768 32 :=
  select (cmpi .slt (flat ix) (broadcastInDim S32768 ![] bcast_S_S32768 (constantI S_ 32 0#32)))
    (addi (flat ix) (broadcastInDim S32768 ![] bcast_S_S32768 (constantI S_ 32 1024#32))) (flat ix)

/-- Those indices as a column. -/
def starts (ix : IVec S256x128 32) : IVec S32768x1 32 := broadcastInDim S32768x1 ![0] bcast_S32768_S32768x1_0 (wrapped ix)

/-- Which of those indices name a row of the table. -/
def named (ix : IVec S256x128 32) : IVec S32768 1 :=
  Host.reduce IntOp.andi
    (andi (cmpi .sge (starts ix) (broadcastInDim S32768x1 ![] bcast_S_S32768x1 (constantI S_ 32 0#32)))
      (cmpi .sle (starts ix) (broadcastInDim S32768x1 ![0, 1] bcast_S1x1_S32768x1_0_1 (broadcastInDim S1x1 ![1] bcast_S1_S1x1_1 (constantI S1 32 1023#32)))))
    (constantI S_ 1 1#1) reducesTo_S32768x1_S32768_d1 h_S_

/-- The reference's first result: the table's rows that the indices name. -/
def taken (w : FVec Ideal S1024x64 .f32) (ix : IVec S256x128 32) : FVec Ideal S32768x64 .f32 :=
  select (broadcastInDim S32768x64 ![0] bcast_S32768_S32768x64_0 (named ix))
    (Host.gather gather_S1024x64_S32768x1_S32768x64_1_0_n_n_0_1_164 w (starts ix))
    (broadcastInDim S32768x64 ![] bcast_S_S32768x64 (constant S_ .f32 0x7FC00000#32))

/-- For each chunk of 1024 indices, each of its indices and each code, one if the index is the code and zero otherwise. -/
def marks (ix : IVec S256x128 32) : FVec Ideal S32x1024x1024 .f32 :=
  uitofp .f32 (cmpi .eq
    (broadcastInDim S32x1024x1024 ![0, 1, 2] bcast_S32x1024x1_S32x1024x1024_0_1_2
      (broadcastInDim S32x1024x1 ![0, 1] bcast_S32x1024_S32x1024x1_0_1 (shapeCast _ ix shapeCasts_S256x128_S32x1024)))
    (broadcastInDim S32x1024x1024 ![0, 1, 2] bcast_S1x1x1024_S32x1024x1024_0_1_2 (iotaInDim S1x1x1024 32 2)))

/-- The reference's second result: how often each code occurs in each chunk. -/
def counted (ix : IVec S256x128 32) : FVec Ideal S32x1024 .f32 :=
  Host.reduceAdd (marks ix) (constant S_ .f32 0x00000000#32) reducesTo_S32x1024x1024_S32x1024_d1 h_S_

/-- The `t`-th of all indices. -/
theorem flat_at (ix : IVec S256x128 32) (t : Fin 32768) : flat ix (ix1 t) = ix (place t) := by
  refine congrArg ix (Shape.reshapeEquiv_eq_of_vals _ _ _ (t.val / 128 * 128 + t.val % 128) t.val ?_ (rowMajor_val1 _) (by omega))
  exact rowMajor_val2 (place t) 128 rfl

/-- An index in range is read as it stands. -/
theorem wrapped_at (ix : IVec S256x128 32) (hr : ∀ x : (Mat 256 128).Idx, (ix x).toNat < 1024) (t : Fin 32768) :
    wrapped ix (ix1 t) = ix (place t) := by
  have h : ¬ IntOp.cmpi .slt (ix (place t)) 0#32 = 1#1 := fun e =>
    absurd ((StableHlo.Predicate.slt_iff_toNat (by have := hr (place t); omega) (by decide)).1 e) (Nat.not_lt_zero _)
  show (if IntOp.cmpi .slt (flat ix (ix1 t)) 0#32 = 1#1 then flat ix (ix1 t) + 1024#32 else flat ix (ix1 t)) = _
  rw [flat_at, if_neg h]

/-- The column's entry in row `t` is the `t`-th index. -/
theorem starts_at (ix : IVec S256x128 32) (hr : ∀ x : (Mat 256 128).Idx, (ix x).toNat < 1024) (i : S32768x1.Idx) :
    starts ix i = ix (place (i 0)) := by
  refine Eq.trans (congrArg (wrapped ix) ?_) (wrapped_at ix hr (i 0))
  funext a
  match a with
  | ⟨0, _⟩ => exact Fin.ext rfl

/-- Indices in range all name a row. -/
theorem named_at (ix : IVec S256x128 32) (hr : ∀ x : (Mat 256 128).Idx, (ix x).toNat < 1024) (j : S32768.Idx) : named ix j = 1#1 := by
  refine (Range.and_reduce _ _ _ _ _).2 ⟨rfl, fun i _ => (Range.and_bits _ _).2 ⟨?_, ?_⟩⟩
  · show IntOp.cmpi .sge (starts ix i) 0#32 = 1#1
    rw [starts_at ix hr]
    exact (StableHlo.Predicate.sge_iff_toNat (by have := hr (place (i 0)); omega) (by decide)).2 (Nat.zero_le _)
  · show IntOp.cmpi .sle (starts ix i) 1023#32 = 1#1
    rw [starts_at ix hr]
    exact (StableHlo.Predicate.sle_iff_toNat (by have := hr (place (i 0)); omega) (by decide)).2 (Nat.le_of_lt_succ (hr (place (i 0))))

/-- A choice under the bit one takes its first value. -/
theorem select_one {s : Shape} {α : Type} (c : IVec s 1) (a b : s.Idx → α) (i : s.Idx) (h : c i = 1#1) : select c a b i = a i := if_pos h

/-- Where the indices are in range, row `t` of the first result is the row of the table that the `t`-th index names. -/
theorem taken_at (w : FVec Ideal S1024x64 .f32) (ix : IVec S256x128 32) (hr : ∀ x : (Mat 256 128).Idx, (ix x).toNat < 1024)
    (t : Fin 32768) (y : Fin 64) : taken w ix (ix2 t y) = w (ix2 ⟨(ix (place t)).toNat, hr (place t)⟩ y) := by
  have h : broadcastInDim S32768x64 ![0] bcast_S32768_S32768x64_0 (named ix) (ix2 t y) = 1#1 := named_at ix hr _
  refine (select_one _ _ _ _ h).trans ?_
  have e : starts ix (ix2 t (0 : Fin 1)) = BitVec.ofNat 32 (ix (place t)).toNat := by
    rw [starts_at ix hr, BitVec.ofNat_toNat, BitVec.setWidth_eq]
    rfl
  exact Routing.gather_row (nb := 1024) (B := 64) (n := 32768) gather_S1024x64_S32768x1_S32768x64_1_0_n_n_0_1_164 rfl rfl rfl rfl rfl
    w (starts ix) t y ⟨(ix (place t)).toNat, hr (place t)⟩ e (by norm_num)

/-- A bit that is not one is zero. -/
theorem eq_zero_of_ne_one {b : BitVec 1} (h : b ≠ 1#1) : b = 0#1 := by
  revert b
  decide

/-- The mark of code `c` at the `k`-th index of chunk `n` is that index's hit. -/
theorem marks_at (ix : IVec S256x128 32) (n : Fin 32) (k c : Fin 1024) :
    marks ix (ix3 n k c) = hit (block n ix (entry k)) (bin c) := by
  have e : shapeCast S32x1024 ix shapeCasts_S256x128_S32x1024 (ix2 n k) = block n ix (entry k) := by
    have hn := n.isLt
    have hk := k.isLt
    refine congrArg ix (Shape.reshapeEquiv_eq_of_vals _ _ _ ((8 * n.val + k.val / 128) * 128 + k.val % 128) (n.val * 1024 + k.val)
      ?_ (rowMajor_val2 _ 1024 rfl) (by omega))
    exact rowMajor_val2 (at2 (m := 256) (n := 128) ⟨8 * n.val + k.val / 128, by omega⟩ ⟨k.val % 128, by omega⟩) 128 rfl
  have hc : (BitVec.ofNat 32 c.val).toNat = c.val := by
    have := c.isLt
    rw [BitVec.toNat_ofNat]
    omega
  have h : marks ix (ix3 n k c) = (((IntOp.cmpi .eq (shapeCast S32x1024 ix shapeCasts_S256x128_S32x1024 (ix2 n k)) (BitVec.ofNat 32 c.val)).toNat : ℝ) : EReal) := by
    refine congrArg (fun x => (((IntOp.cmpi .eq (shapeCast S32x1024 ix shapeCasts_S256x128_S32x1024 x) (BitVec.ofNat 32 c.val)).toNat : ℝ) : EReal)) (?_ : _ = ix2 n k)
    funext a
    match a with
    | ⟨0, _⟩ => exact Fin.ext rfl
    | ⟨1, _⟩ => exact Fin.ext rfl
  rw [h, e]
  unfold hit
  show _ = if c.val = (block n ix (entry k)).toNat then (1 : EReal) else 0
  by_cases q : block n ix (entry k) = BitVec.ofNat 32 c.val
  · rw [StableHlo.Predicate.cmpi_eq_iff.2 q, q, hc, if_pos rfl]
    simp
  · rw [if_neg fun z => q (BitVec.eq_of_toNat_eq (z.symm.trans hc.symm)), eq_zero_of_ne_one fun z => q (StableHlo.Predicate.cmpi_eq_iff.1 z)]
    simp

/-- The counts of the second result are the exact counts of each block. -/
theorem counted_eq (ix : IVec S256x128 32) : counted ix = outCounts (F := Ideal) ix := by
  funext x
  refine (Ideal.hostReduceAdd_r3_a1 reducesTo_S32x1024x1024_S32x1024_d1 (marks ix) _ x).trans ?_
  refine Eq.trans ?_ (counts_exact (block (x 0) ix) (bin (x 1))).symm
  rw [show (constant (F := Ideal) S_ .f32 0x00000000#32 (Shape.Idx.first h_S_) : EReal) = 0 from Ideal.ofBits_zero_f32, zero_add]
  exact Finset.sum_congr rfl fun k _ => marks_at ix (x 0) k (x 1)

end Cert.ReferenceIdeal.Value

end

end
-- ==== Proof.Agree.lean ====
module

public import proofs.«01_k».proof.Proof.IdealMain
public import proofs.«01_k».proof.Proof.Reference
import Idealize.ShloMosaic.Lib.Pointwise.ShapeOpsCore

@[expose] public section

noncomputable section

namespace Cert.KernelIdeal.Tile

open Cert.KernelIdeal Cert.KernelIdeal.Gen Idealize Idealize.ShloMosaic Values

variable (m : (ℓ : Loc nD τ sig) → Buf (Elt Ideal) ℓ)

/-- The first 64 lanes of the padded table are the table. -/
theorem padded_at (d : Dev nD) (r : Fin 1024) (y : Fin 64) :
    padded (F := Ideal) m d (at2 r ⟨y.val, by omega⟩) = (m (wLoc d) : S1024x64.Idx → Elt Ideal .f32) (at2 r y) := by
  have hr := r.isLt
  have hy := y.isLt
  refine (pad_apply ![0, 0] ![0, 64] ![0, 0] (m (wLoc d) : S1024x64.Idx → Elt Ideal .f32) _ _ _ _).trans ?_
  rw [dif_pos (fun a => ?_)]
  · refine congrArg (m (wLoc d) : S1024x64.Idx → Elt Ideal .f32) (mat_ext ?_ ?_)
    · show (r.val - 0) / (0 + 1) = r.val
      omega
    · show (y.val - 0) / (0 + 1) = y.val
      omega
  · match a with
    | ⟨0, _⟩ =>
      show 0 ≤ r.val ∧ (r.val - 0) % (0 + 1) = 0 ∧ (r.val - 0) / (0 + 1) < 1024
      omega
    | ⟨1, _⟩ =>
      show 0 ≤ y.val ∧ (y.val - 0) % (0 + 1) = 0 ∧ (y.val - 0) / (0 + 1) < 64
      omega

/-- Where the indices are in range, the kernel's first result is the reference's. -/
theorem result_eq (hpre : PreOK m) (d : Dev nD) :
    result (F := Ideal) m d = ReferenceIdeal.Value.taken (m (wLoc d)) (codes m d) := by
  funext x
  obtain ⟨t, y, rfl⟩ : ∃ (t : Fin 32768) (y : Fin 64), x = ix2 t y := ⟨x 0, x 1, eq_ix2 x⟩
  rw [ReferenceIdeal.Value.taken_at _ _ (hpre d)]
  have e : result (F := Ideal) m d (ix2 t y)
      = padded (F := Ideal) m d (at2 ⟨(codes m d (place t)).toNat % 1024, Nat.mod_lt _ (by decide)⟩ ⟨y.val, by omega⟩) := by
    have ht : (⟨0 + t.val, by omega⟩ : Fin 32768) = t := Fin.ext (Nat.zero_add _)
    show padded (F := Ideal) m d (at2 ⟨(codes m d (place (⟨0 + t.val, by omega⟩ : Fin 32768))).toNat % 1024, Nat.mod_lt _ (by decide)⟩ ⟨0 + y.val, by omega⟩) = _
    refine congrArg (padded (F := Ideal) m d) (mat_ext ?_ (Nat.zero_add _))
    show (codes m d (place (⟨0 + t.val, by omega⟩ : Fin 32768))).toNat % 1024 = (codes m d (place t)).toNat % 1024
    rw [ht]
  rw [e, padded_at]
  refine congrArg (m (wLoc d) : S1024x64.Idx → Elt Ideal .f32) (mat_ext ?_ rfl)
  exact Nat.mod_eq_of_lt (hpre d (place t))

end Cert.KernelIdeal.Tile

end

end
-- ==== Proof.FirstLeast.lean ====
/- The place of the first smallest number among 1024, found in two ways: by comparing each number with the smallest
   and taking the smallest place where it is not above, and by a fold that keeps the smaller of two pairs of a number
   and its place. -/
module

public import Idealize.ShloMosaic.Lib.Pointwise
public import Idealize.ShloMosaic.PureOps.Ideal.Laws
public import Mathlib.Data.Prod.Lex
public import Mathlib.Data.Finset.Max

@[expose] public section

noncomputable section

namespace Cert.FirstLeast

open Idealize.ShloMosaic

/-- `k` is the first place of `d`'s smallest number. -/
def First (d : Fin 1024 → EReal) (k : Fin 1024) : Prop := ∀ j, d k < d j ∨ d k = d j ∧ k ≤ j

theorem exists_first (d : Fin 1024 → EReal) : ∃ k, First d k := by
  obtain ⟨k, -, hk⟩ := Finset.exists_min_image Finset.univ (fun j => toLex (d j, j)) ⟨0, Finset.mem_univ _⟩
  exact ⟨k, fun j => Prod.Lex.toLex_le_toLex.mp (hk j (Finset.mem_univ j))⟩

theorem First.le {d : Fin 1024 → EReal} {k : Fin 1024} (h : First d k) (j : Fin 1024) : d k ≤ d j :=
  (h j).elim le_of_lt fun e => e.1.le

/-- The smallest place at which a number is at most the smallest, as a number turned into a word. -/
def code (d : Fin 1024 → EReal) : BitVec 32 :=
  Ideal.fptosi 32 (Finset.univ.fold min ⊤ fun j : Fin 1024 =>
    if d j ≤ Finset.univ.fold min ⊤ d then (((BitVec.ofNat 32 j.val).toInt : ℝ) : EReal) else ((1024 : ℝ) : EReal))

theorem infinity_eq : Ideal.ofBits .f32 0x7F800000#32 = ⊤ := by
  simp [Ideal.ofBits, Ideal.ieee]

theorem count_eq : Ideal.ofBits .f32 0x44800000#32 = ((1024 : ℝ) : EReal) := by
  simp [Ideal.ofBits, Ideal.ieee, ← EReal.coe_mul]
  norm_num

/-- The same with its constants as words. -/
theorem code_words (d : Fin 1024 → EReal) :
    FloatOps.fptosi (F := Ideal) (φ := .f32) 32 (Finset.univ.fold min (Ideal.ofBits .f32 0x7F800000#32) fun j : Fin 1024 =>
      if d j ≤ Finset.univ.fold min (Ideal.ofBits .f32 0x7F800000#32) d then FloatOps.sitofp (F := Ideal) .f32 (BitVec.ofNat 32 j.val)
      else Ideal.ofBits .f32 0x44800000#32) = code d := by
  rw [infinity_eq, count_eq]
  rfl

theorem toInt_place (k : Fin 1024) : (BitVec.ofNat 32 k.val).toInt = (k.val : ℤ) := by
  have := k.isLt
  rw [BitVec.toInt_eq_toNat_of_lt (by rw [BitVec.toNat_ofNat]; omega), BitVec.toNat_ofNat]
  omega

theorem word_of_place (k : Fin 1024) : Ideal.fptosi 32 (((k.val : ℝ)) : EReal) = BitVec.ofNat 32 k.val := by
  have hk : (k.val : ℤ) < 1024 := by exact_mod_cast k.isLt
  show BitVec.ofInt 32 (max _ (min _ (if (0 : ℝ) ≤ (k.val : ℝ) then ⌊(k.val : ℝ)⌋ else ⌈(k.val : ℝ)⌉))) = _
  rw [if_pos (Nat.cast_nonneg _), Int.floor_natCast, min_eq_right (by norm_num; omega), max_eq_right (by norm_num)]
  exact BitVec.ofInt_natCast _ _

theorem code_eq {d : Fin 1024 → EReal} {k : Fin 1024} (h : First d k) : code d = BitVec.ofNat 32 k.val := by
  have hm : Finset.univ.fold min ⊤ d = d k :=
    le_antisymm ((Finset.fold_min_le _).mpr (Or.inr ⟨k, Finset.mem_univ _, le_rfl⟩)) ((Finset.le_fold_min _).mpr ⟨le_top, fun j _ => h.le j⟩)
  unfold code
  rw [hm, ← word_of_place]
  refine congrArg _ (le_antisymm ((Finset.fold_min_le _).mpr (Or.inr ⟨k, Finset.mem_univ _, ?_⟩)) ((Finset.le_fold_min _).mpr ⟨le_top, fun j _ => ?_⟩))
  · rw [if_pos le_rfl, toInt_place]
    exact le_of_eq (by norm_cast)
  · by_cases hj : d j ≤ d k
    · rw [if_pos hj, toInt_place, EReal.coe_le_coe_iff]
      have hkj : k ≤ j := (h j).elim (fun l => absurd l (not_lt.mpr hj)) And.right
      exact_mod_cast (show k.val ≤ j.val from hkj)
    · rw [if_neg hj, EReal.coe_le_coe_iff]
      exact_mod_cast k.isLt.le

/-- A fold that keeps the element of the smaller key ends at one of the elements, and none has a smaller key. -/
theorem foldl_keeps {α L : Type} [LinearOrder L] (key : α → L) (f : α → α → α)
    (hf : ∀ a b, f a b = if key a < key b then a else b) :
    ∀ (l : List α) (p : α), l.foldl f p ∈ p :: l ∧ ∀ q ∈ p :: l, key (l.foldl f p) ≤ key q
  | [], p => ⟨List.mem_singleton_self p, fun q hq => by rw [List.mem_singleton.mp hq]; exact le_rfl⟩
  | b :: l, p => by
    obtain ⟨hm, hl⟩ := foldl_keeps key f hf l (f p b)
    rw [List.foldl_cons]
    have hle : key (f p b) ≤ key p ∧ key (f p b) ≤ key b := by
      rw [hf]
      split
      · next h => exact ⟨le_rfl, h.le⟩
      · next h => exact ⟨not_lt.mp h, le_rfl⟩
    refine ⟨?_, fun q hq => ?_⟩
    · rcases List.mem_cons.mp hm with h | h
      · rw [h, hf]
        split
        · exact List.mem_cons_self
        · exact List.mem_cons_of_mem _ List.mem_cons_self
      · exact List.mem_cons_of_mem _ (List.mem_cons_of_mem _ h)
    · have hh := hl _ List.mem_cons_self
      rcases List.mem_cons.mp hq with h | h
      · rw [h]; exact hh.trans hle.1
      · rcases List.mem_cons.mp h with h | h
        · rw [h]; exact hh.trans hle.2
        · exact hl q (List.mem_cons_of_mem _ h)

/-- Keeping the pair of the smaller number, and of the smaller place at equal numbers. -/
def Keeps (f : EReal × BitVec 32 → EReal × BitVec 32 → EReal × BitVec 32) : Prop :=
  ∀ a b, f a b = if a.1 < b.1 ∨ a.1 = b.1 ∧ a.2.toInt < b.2.toInt then a else b

/-- Such a fold over the pairs of the numbers and their places ends at the first smallest one's place. -/
theorem foldl_place {f : EReal × BitVec 32 → EReal × BitVec 32 → EReal × BitVec 32} (hf : Keeps f) (d : Fin 1024 → EReal)
    (l : List (EReal × BitVec 32)) (hl : ∀ p, p ∈ l ↔ ∃ j : Fin 1024, p = (d j, BitVec.ofNat 32 j.val)) :
    (l.foldl f (⊤, 0#32)).2 = code d := by
  obtain ⟨k, hk⟩ := exists_first d
  rw [code_eq hk]
  obtain ⟨hm, hle⟩ := foldl_keeps (fun p : EReal × BitVec 32 => toLex (p.1, p.2.toInt)) f
    (fun a b => (hf a b).trans (by simp only [Prod.Lex.toLex_lt_toLex])) l (⊤, 0#32)
  have hmin := Prod.Lex.toLex_le_toLex.mp (hle _ (List.mem_cons_of_mem _ ((hl _).mpr ⟨k, rfl⟩)))
  dsimp only at hmin
  rcases List.mem_cons.mp hm with h | h
  · rw [h] at hmin ⊢
    rcases hmin with h' | ⟨h', -⟩
    · exact absurd h' not_top_lt
    · refine congrArg (BitVec.ofNat 32) (Eq.symm ?_)
      rcases hk 0 with h0 | ⟨-, h0⟩
      · exact absurd (h' ▸ h0) not_top_lt
      · exact Nat.le_zero.mp h0
  · obtain ⟨j, hj⟩ := (hl _).mp h
    rw [hj] at hmin ⊢
    refine congrArg (fun i : Fin 1024 => BitVec.ofNat 32 i.val) ?_
    dsimp only at hmin
    rw [toInt_place, toInt_place] at hmin
    rcases hmin with h' | ⟨h', hjk⟩
    · exact absurd h' (not_lt.mpr (hk.le j))
    · rcases hk j with hlt | ⟨-, hkj⟩
      · exact absurd hlt (not_lt.mpr h'.le)
      · exact le_antisymm (by exact_mod_cast hjk) hkj

/-- The host's index of the smallest entry of row `i` is the code of that row. -/
theorem argmin_row {n : ℕ} {u : Shape} (f : Ideal .f32 × BitVec 32 → Ideal .f32 × BitVec 32 → Ideal .f32 × BitVec 32) (hf : Keeps f)
    (x : FVec Ideal ⟨2, ![n, 1024]⟩ .f32) (y : IVec ⟨2, ![n, 1024]⟩ 32) (hy : ∀ (i : Fin n) (j : Fin 1024), y (ix2 i j) = BitVec.ofNat 32 j.val)
    (a : u.Idx → Ideal .f32) (b : u.Idx → BitVec 32) (h : (⟨2, ![n, 1024]⟩ : Shape).ReducesTo [1] ⟨1, ![n]⟩) (hu : 0 < u.numel)
    (ha : ∀ i, a i = (⊤ : EReal)) (hb : ∀ i, b i = 0#32) (i : Fin n) :
    (Host.argReduce f x y a b h hu (ix1 i)).2 = code fun j => x (ix2 i j) := by
  rw [Ideal.argReduce_eq_reduce2, Host.reduce2_eq_foldl_fiber, ha, hb]
  refine foldl_place hf _ _ fun p => ?_
  unfold Host.argReduceFiber
  simp only [List.mem_map, List.mem_filter, List.mem_finRange, true_and, decide_eq_true_eq]
  have hd : ∀ z : (⟨2, ![n, 1024]⟩ : Shape).Idx, h.drop z = ix1 i ↔ z 0 = i := fun z => by
    have hv : (h.drop z 0 : ℕ) = z 0 := h.drop_apply_val_of_eq z 0 0 Nat.one_pos rfl
    constructor
    · intro e
      exact Fin.ext (hv.symm.trans (congrArg (fun w => (w 0).val) e))
    · intro e
      funext c
      match c with
      | ⟨0, _⟩ => exact Fin.ext (hv.trans (congrArg Fin.val e))
  constructor
  · rintro ⟨q, hq, rfl⟩
    rw [hd] at hq
    generalize (Shape.rowMajor _).symm q = z at hq ⊢
    refine ⟨z 1, ?_⟩
    have hz : z = ix2 i (z 1) := by
      funext c
      match c with
      | ⟨0, _⟩ => exact hq
      | ⟨1, _⟩ => rfl
    exact Prod.ext (congrArg x hz) ((congrArg y hz).trans (hy i (z 1)))
  · rintro ⟨j, rfl⟩
    refine ⟨Shape.rowMajor _ (ix2 i j), ?_⟩
    rw [Equiv.symm_apply_apply, hd, hy]
    exact ⟨rfl, rfl⟩

end Cert.FirstLeast

end
-- ==== Proof.NearestReferenceRun.lean ====
/- The first layer's reference as a list of operations, and what they leave. -/
module

public import proofs.«01_k».proof.Proof.Gen.NearestReferenceIdeal
public import Idealize.ShloMosaic.Lib.StableHlo.Run

@[expose] public section

noncomputable section

namespace Cert.NearestReferenceIdeal.Value

open Cert.NearestReferenceIdeal Cert.NearestReferenceIdeal.Gen Idealize.ShloMosaic Idealize.ShloMosaic.TcCoe Idealize.SL.Sem Idealize.ShloMosaic.StableHlo

variable {F : FTy → Type} [FloatOps F]

/-- The reference's operations, in order; those of the index of the smallest entry are written over typed references. -/
abbrev ops : List (HloOp τ sig (Elt F)) :=
  [ reshape main_arg0 main_v0 (rfl : (.f32 : EltTy) = .f32) shapeCasts_S32x1024x64_S32768x64,
    binary main_v0 main_v0 main_v1 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v1 main_cst main_v2 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v2 main_v3 (broadcastInDim S32768x1 ![0] bcast_S32768_S32768x1_0 : (⟨S32768, .f32⟩ : BufTy).Contents (Elt F) → (⟨S32768x1, .f32⟩ : BufTy).Contents (Elt F)),
    binary main_arg1 main_arg1 main_v4 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v4 main_cst_0 main_v5 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v5 main_v6 (broadcastInDim S1x1024 ![1] bcast_S1024_S1x1024_1 : (⟨S1024, .f32⟩ : BufTy).Contents (Elt F) → (⟨S1x1024, .f32⟩ : BufTy).Contents (Elt F)),
    unary main_v3 main_v7 (broadcastInDim S32768x1024 ![0, 1] bcast_S32768x1_S32768x1024_0_1 : (⟨S32768x1, .f32⟩ : BufTy).Contents (Elt F) → (⟨S32768x1024, .f32⟩ : BufTy).Contents (Elt F)),
    unary main_v6 main_v8 (broadcastInDim S32768x1024 ![0, 1] bcast_S1x1024_S32768x1024_0_1 : (⟨S1x1024, .f32⟩ : BufTy).Contents (Elt F) → (⟨S32768x1024, .f32⟩ : BufTy).Contents (Elt F)),
    binary main_v7 main_v8 main_v9 (addf : (⟨S32768x1024, .f32⟩ : BufTy).Contents (Elt F) → (⟨S32768x1024, .f32⟩ : BufTy).Contents (Elt F) → (⟨S32768x1024, .f32⟩ : BufTy).Contents (Elt F)),
    unary main_arg1 main_v10 ((transpose S64x1024 [1, 0] · transposes_S1024x64_S64x1024_1_0) : (⟨S1024x64, .f32⟩ : BufTy).Contents (Elt F) → (⟨S64x1024, .f32⟩ : BufTy).Contents (Elt F)),
    binary main_v0 main_v10 main_v11 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_1 (constant S_ .f32 0x40000000#32),
    unary main_cst_1 main_v12 (broadcastInDim S32768x1024 ![] bcast_S_S32768x1024 : (⟨S_, .f32⟩ : BufTy).Contents (Elt F) → (⟨S32768x1024, .f32⟩ : BufTy).Contents (Elt F)),
    binary main_v12 main_v11 main_v13 (mulf : (⟨S32768x1024, .f32⟩ : BufTy).Contents (Elt F) → (⟨S32768x1024, .f32⟩ : BufTy).Contents (Elt F) → (⟨S32768x1024, .f32⟩ : BufTy).Contents (Elt F)),
    binary main_v9 main_v13 main_v14 (subf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v14) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v14) (TRef.of (T := ⟨S32768x1024, .i32⟩) main_call0_v0) (TRef.of (T := ⟨S_, .f32⟩) main_call0_cst) (TRef.of (T := ⟨S_, .i32⟩) main_call0_c) (TRef.of (T := ⟨S32768, .i32⟩) main_v15) (fun x y u v j => (Host.argReduce reducer_argmin_f32_i32 x y u v reducesTo_S32768x1024_S32768_d1 h_S_ j).2),
    unary main_v15 main_v16 ((Host.slice S16384 ![0] ![2] · slicesBy_S32768_S16384_0s2) : (⟨S32768, .i32⟩ : BufTy).Contents (Elt F) → (⟨S16384, .i32⟩ : BufTy).Contents (Elt F)),
    reshape main_v16 main_v17 (rfl : (.i32 : EltTy) = .i32) shapeCasts_S16384_S8x1x2048,
    unary main_v15 main_v18 ((Host.slice S16384 ![1] ![2] · slicesBy_S32768_S16384_1s2) : (⟨S32768, .i32⟩ : BufTy).Contents (Elt F) → (⟨S16384, .i32⟩ : BufTy).Contents (Elt F)),
    reshape main_v18 main_v19 (rfl : (.i32 : EltTy) = .i32) shapeCasts_S16384_S8x1x2048 ]

theorem main_eq (c : Dev nD) : main (F := F) c = seq ops := rfl

theorem no_scoped_refs : (Finset.univ.filter fun b : Ref sig .tc => b.isScoped) = ∅ := by decide

theorem no_scoped_sems : (Finset.univ.filter fun s : SemLoc sig => s.isScoped .tc) = ∅ := by decide

theorem ops_sub : (ops : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., reshape_bufs_sub .., unary_bufs_sub .., reshape_bufs_sub ..⟩

/-- The squared distances of the rows `z` to the rows `w`, each as the reference writes it: the two squared norms less
    twice the product. -/
def distances (z : FVec F S32768x64 .f32) (w : FVec F S1024x64 .f32) : FVec F S32768x1024 .f32 :=
  subf
    (addf
      (broadcastInDim S32768x1024 ![0, 1] bcast_S32768x1_S32768x1024_0_1 (broadcastInDim S32768x1 ![0] bcast_S32768_S32768x1_0
        (Host.reduceAdd (mulf z z) (constant S_ .f32 0x00000000#32) reducesTo_S32768x64_S32768_d1 h_S_)))
      (broadcastInDim S32768x1024 ![0, 1] bcast_S1x1024_S32768x1024_0_1 (broadcastInDim S1x1024 ![1] bcast_S1024_S1x1024_1
        (Host.reduceAdd (mulf w w) (constant S_ .f32 0x00000000#32) reducesTo_S1024x64_S1024_d1 h_S_))))
    (mulf (broadcastInDim S32768x1024 ![] bcast_S_S32768x1024 (constant S_ .f32 0x40000000#32))
      (Host.dotGeneral dot_S32768x64_S64x1024_S32768x1024_1_0_0_1_n_n none z (transpose S64x1024 [1, 0] w transposes_S1024x64_S64x1024_1_0)))

/-- The place of the smallest entry of each row. -/
def places (d : FVec F S32768x1024 .f32) : IVec S32768 32 := fun j =>
  (Host.argReduce reducer_argmin_f32_i32 d (iotaInDim S32768x1024 32 1) (constant S_ .f32 0x7F800000#32) (constantI S_ 32 0#32)
    reducesTo_S32768x1024_S32768_d1 h_S_ j).2

/-- The entries at even places, in blocks of 2048. -/
def evens (p : IVec S32768 32) : IVec S8x1x2048 32 := shapeCast _ (Host.slice S16384 ![0] ![2] p slicesBy_S32768_S16384_0s2) shapeCasts_S16384_S8x1x2048

/-- The entries at odd places, in blocks of 2048. -/
def odds (p : IVec S32768 32) : IVec S8x1x2048 32 := shapeCast _ (Host.slice S16384 ![1] ![2] p slicesBy_S32768_S16384_1s2) shapeCasts_S16384_S8x1x2048

set_option maxHeartbeats 2000000 in
/-- The reference runs, and its results are the nearest codes of the even and of the odd tokens. -/
theorem run (m : (l : Loc nD τ sig) → Buf (Elt F) l) (ρ : Dev nD → PrngReg) :
    θ_run defs (onTc (τ := τ) (main (F := F))) ⟨m, fun _ => 0, ρ⟩ fun r => ∀ c : Dev nD,
      r.2.mem ((c.tc : Thread nD τ).loc main_v17) = evens (places (distances (shapeCast _ (m ((c.tc : Thread nD τ).loc main_arg0)) shapeCasts_S32x1024x64_S32768x64) (m ((c.tc : Thread nD τ).loc main_arg1))))
      ∧ r.2.mem ((c.tc : Thread nD τ).loc main_v19) = odds (places (distances (shapeCast _ (m ((c.tc : Thread nD τ).loc main_arg0)) shapeCasts_S32x1024x64_S32768x64) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v17).trans (by after_results_simp <;> rfl), (h c main_v19).trans (by after_results_simp <;> rfl),
      (h c main_arg0).trans (by after_results_simp <;> rfl), (h c main_arg1).trans (by after_results_simp <;> rfl)⟩)
    (run_seq no_scoped_refs no_scoped_sems defs main (fun _ => ops) main_eq (fun _ => ops_sub) m ρ)

end Cert.NearestReferenceIdeal.Value

end
-- ==== Proof.Distance.lean ====
/- The squared distance of two rows in the reference's form and in the kernel's, and the reference's nearest codes. -/
module

public import proofs.«01_k».proof.Proof.FirstLeast
public import proofs.«01_k».proof.Proof.NearestReferenceRun
public import Idealize.ShloMosaic.Lib.Pointwise

@[expose] public section

noncomputable section

namespace Cert.Distance

open Idealize.ShloMosaic Cert.FirstLeast

/-- Every entry is a real number. -/
def Real {ι : Type} (f : ι → EReal) : Prop := ∃ a : ι → ℝ, ∀ i, f i = (a i : EReal)

/-- Taking the entries in another order or several times keeps them real numbers. -/
theorem Real.taken {ι κ : Type} {f : ι → EReal} (h : Real f) (e : κ → ι) : Real fun k => f (e k) :=
  let ⟨a, ha⟩ := h
  ⟨fun k => a (e k), fun k => ha (e k)⟩

theorem two_eq : Ideal.ofBits .f32 0x40000000#32 = ((2 : ℝ) : EReal) := by
  simp [Ideal.ofBits, Ideal.ieee, ← EReal.coe_mul]
  norm_num

theorem minus_two_eq : Ideal.ofBits .f32 0xC0000000#32 = ((-2 : ℝ) : EReal) := by
  simp [Ideal.ofBits, Ideal.ieee, ← EReal.coe_mul]
  norm_num

/-- A sum of real numbers is a real number. -/
theorem coe_sum {ι : Type} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]

/-- The squared distance of `x` to `w`, as the kernel computes it. -/
def far (x w : Fin 64 → EReal) : EReal :=
  ∑ k, x k * x k + ∑ k, w k * w k + ∑ k, x k * (Ideal.ofBits .f32 0xC0000000#32 * w k)

theorem far_of {x w p s : Fin 64 → EReal} {q : EReal} (hp : ∀ k, p k = x k) (hq : q = ∑ k, w k * w k)
    (hs : ∀ k, s k = Ideal.ofBits .f32 0xC0000000#32 * w k) : ∑ k, p k * p k + q + ∑ k, p k * s k = far x w := by
  rw [funext hp, hq, funext hs]
  rfl

/-- The kernel's product with `-2 w` is the reference's `-2` times the product, for rows of real numbers. -/
theorem far_eq {x w : Fin 64 → EReal} (hx : Real x) (hw : Real w) :
    far x w = ∑ k, x k * x k + ∑ k, w k * w k - Ideal.ofBits .f32 0x40000000#32 * ∑ k, x k * w k := by
  obtain ⟨a, ha⟩ := hx
  obtain ⟨b, hb⟩ := hw
  unfold far
  rw [two_eq, minus_two_eq, sub_eq_add_neg]
  refine congrArg _ ?_
  simp only [ha, hb, ← EReal.coe_mul, ← EReal.coe_neg, ← coe_sum]
  rw [EReal.coe_eq_coe_iff, Finset.mul_sum, ← Finset.sum_neg_distrib]
  exact Finset.sum_congr rfl fun k _ => by ring

open Cert.NearestReferenceIdeal Cert.NearestReferenceIdeal.Gen Cert.NearestReferenceIdeal.Value

theorem distances_eq (z : FVec Ideal S32768x64 .f32) (w : FVec Ideal S1024x64 .f32) (i : Fin 32768) (j : Fin 1024) :
    distances (F := Ideal) z w (ix2 i j) = ∑ k : Fin 64, z (ix2 i k) * z (ix2 i k) + ∑ k : Fin 64, w (ix2 j k) * w (ix2 j k)
      - Ideal.ofBits .f32 0x40000000#32 * ∑ k : Fin 64, z (ix2 i k) * w (ix2 j k) := by
  pointwise [distances]

/-- The reference's reduction keeps the smaller number, and of equal ones that of the smaller place. -/
theorem keeps : Keeps (reducer_argmin_f32_i32 (F := Ideal)) := fun a b => by
  obtain ⟨a, i⟩ := a
  obtain ⟨b, j⟩ := b
  unfold reducer_argmin_f32_i32
  have hb : ∀ p q r s : Prop, ∀ [Decidable p] [Decidable q] [Decidable r] [Decidable s],
      (BitVec.ofBool (decide p) ||| BitVec.ofBool (decide q) ||| BitVec.ofBool (decide r) &&& BitVec.ofBool (decide s) = 1#1 ↔ (p ∨ q) ∨ r ∧ s)
      ∧ (BitVec.ofBool (decide p) ||| BitVec.ofBool (decide q) = 1#1 ↔ p ∨ q) := fun p q r s _ _ _ _ => by
    by_cases hp : p <;> by_cases hq : q <;> by_cases hr : r <;> by_cases hs : s <;> simp [hp, hq, hr, hs]
  simp only [Ideal.cmpf_def, Ideal.cmp, IntOp.cmpi, Scalar.select, IntOp.ori, IntOp.andi, BitVec.slt_eq_decide]
  simp only [show (1 : BitVec 1) = 1#1 from rfl, (hb _ _ _ _).1, (hb _ _ True True).2, ne_eq, not_true_eq_false, or_false]
  by_cases h : a < b
  · rw [if_pos h, if_pos (Or.inl h), if_pos (Or.inl h)]
  · rw [if_neg h]
    by_cases h' : a = b ∧ i.toInt < j.toInt
    · rw [if_pos (Or.inr h'), if_pos (Or.inr h'), h'.1]
    · rw [if_neg (not_or.mpr ⟨h, h'⟩), if_neg (not_or.mpr ⟨h, h'⟩)]

theorem place_of (i : Fin 32768) (j : Fin 1024) : iotaInDim S32768x1024 32 1 (ix2 i j) = BitVec.ofNat 32 j.val := rfl

theorem top_eq (i : S_.Idx) : constant (F := Ideal) S_ .f32 0x7F800000#32 i = (⊤ : EReal) := infinity_eq

theorem zero_eq (i : S_.Idx) : constantI S_ 32 0#32 i = 0#32 := rfl

theorem places_def (d : FVec Ideal S32768x1024 .f32) : places d = fun j =>
    (Host.argReduce reducer_argmin_f32_i32 d (iotaInDim S32768x1024 32 1) (constant S_ .f32 0x7F800000#32) (constantI S_ 32 0#32)
      reducesTo_S32768x1024_S32768_d1 h_S_ j).2 := rfl

/-- The reference's nearest code of row `i`. -/
theorem places_code (d : FVec Ideal S32768x1024 .f32) (i : Fin 32768) : places d (ix1 i) = code fun j => d (ix2 i j) :=
  (congrFun (places_def d) (ix1 i)).trans
    (argmin_row reducer_argmin_f32_i32 keeps d (iotaInDim S32768x1024 32 1) place_of (constant S_ .f32 0x7F800000#32) (constantI S_ 32 0#32)
      reducesTo_S32768x1024_S32768_d1 h_S_ top_eq zero_eq i)

/-- And with the kernel's distances, where all entries are real numbers. -/
theorem places_row {z : FVec Ideal S32768x64 .f32} {w : FVec Ideal S1024x64 .f32} (hz : Real z) (hw : Real w) (i : Fin 32768) :
    places (distances (F := Ideal) z w) (ix1 i) = code fun j => far (fun k => z (ix2 i k)) fun k => w (ix2 j k) := by
  obtain ⟨a, ha⟩ := hz
  obtain ⟨b, hb⟩ := hw
  rw [places_code]
  refine congrArg code (funext fun j => ?_)
  rw [distances_eq, far_eq ⟨_, fun k => ha (ix2 i k)⟩ ⟨_, fun k => hb (ix2 j k)⟩]

/-- The entry `i` of block `t` of the even places, and of the odd ones. -/
theorem evens_eq (p : IVec S32768 32) (t : Fin 8) (i : Fin 2048) : evens p (ix3 t 0 i) = p (ix1 ⟨2 * (t.val * 2048 + i.val), by omega⟩) := by
  pointwise [evens]

theorem odds_eq (p : IVec S32768 32) (t : Fin 8) (i : Fin 2048) : odds p (ix3 t 0 i) = p (ix1 ⟨2 * (t.val * 2048 + i.val) + 1, by omega⟩) := by
  pointwise [odds]
  exact congrArg p (congrArg ix1 (Fin.ext (Nat.add_comm _ _)))

/-- Two indices of a three-dimensional array are the same where their three numbers are. -/
theorem ix3_ext {n0 n1 n2 : ℕ} {a a' : Fin n0} {b b' : Fin n1} {d d' : Fin n2} (ha : a.val = a'.val) (hb : b.val = b'.val) (hd : d.val = d'.val) :
    ix3 a b d = ix3 a' b' d' := by
  rw [Fin.ext ha, Fin.ext hb, Fin.ext hd]

/-- An index of a block of codes is its last number. -/
theorem only_row (y : (⟨3, ![1, 1, 2048]⟩ : Shape).Idx) : y = ix3 0 0 (y 2) := by
  idx_vars y
  exact ix3_ext (by omega) (by omega) rfl

/-- The code of token `i`, by the kernel's distances. -/
def nearest (z : FVec Ideal S32768x64 .f32) (w : FVec Ideal S1024x64 .f32) (i : Fin 32768) : BitVec 32 :=
  code fun j => far (fun k => z (ix2 i k)) fun k => w (ix2 j k)

/-- The codes of the even tokens, and of the odd ones. -/
def lefts (z : FVec Ideal S32768x64 .f32) (w : FVec Ideal S1024x64 .f32) : IVec S8x1x2048 32 := fun j =>
  nearest z w ⟨2 * ((j 0).val * 2048 + (j 2).val), by
    have h0 : (j 0).val < 8 := (j 0).isLt
    have h2 : (j 2).val < 2048 := (j 2).isLt
    omega⟩

def rights (z : FVec Ideal S32768x64 .f32) (w : FVec Ideal S1024x64 .f32) : IVec S8x1x2048 32 := fun j =>
  nearest z w ⟨2 * ((j 0).val * 2048 + (j 2).val) + 1, by
    have h0 : (j 0).val < 8 := (j 0).isLt
    have h2 : (j 2).val < 2048 := (j 2).isLt
    omega⟩

/-- They are the reference's even and odd places. -/
theorem lefts_eq {z : FVec Ideal S32768x64 .f32} {w : FVec Ideal S1024x64 .f32} (hz : Real z) (hw : Real w) :
    lefts z w = evens (places (distances (F := Ideal) z w)) := by
  funext j
  idx_vars j
  obtain rfl : j1 = 0 := Subsingleton.elim _ _
  exact (places_row hz hw _).symm.trans (evens_eq _ j0 j2).symm

theorem rights_eq {z : FVec Ideal S32768x64 .f32} {w : FVec Ideal S1024x64 .f32} (hz : Real z) (hw : Real w) :
    rights z w = odds (places (distances (F := Ideal) z w)) := by
  funext j
  idx_vars j
  obtain rfl : j1 = 0 := Subsingleton.elim _ _
  exact (places_row hz hw _).symm.trans (odds_eq _ j0 j2).symm

end Cert.Distance

end
-- ==== Proof.NearestValue.lean ====
/- The first layer's call: what its two results hold, from the arguments. A block of 2048 rows, two tokens to a row, is
   coded per grid point: the left halves into the first result, the right halves into the second. -/
module

public import proofs.«01_k».proof.Proof.Distance
public import proofs.«01_k».proof.Proof.Gen.NearestIdeal.Value
public import Idealize.ShloMosaic.Lib.Pipeline.ValueKit

@[expose] public section

noncomputable section

namespace Cert.NearestIdeal.Value

open Cert.NearestIdeal Cert.NearestIdeal.Gen Idealize.ShloMosaic Idealize.ShloMosaic.TcCoe Idealize.SL.Sem
open Idealize.ShloMosaic.Pipeline (Dat)
open Cert.FirstLeast Cert.Distance

local notation "ℓ" => Loc nD τ sig

variable (m : (l : ℓ) → Buf (Elt Ideal) l) (c : Dev nD)

abbrev argZ : Vec Ideal S32x1024x64 .f32 := m ((c : Thread nD τ).loc main_arg0)
abbrev argW : Vec Ideal S1024x64 .f32 := m ((c : Thread nD τ).loc main_arg1)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0, 0] := (by decide +kernel : ∀ t : Fin grid0.N, _)
theorem index_4 : ∀ t : Fin cfg0.N, win0_4.index t = ![t.val, 0, 0] := (by decide +kernel : ∀ t : Fin grid0.N, _)

theorem no_offset : (![0, 0] : Fin 2 → Nat) = fun _ => 0 := funext fun a => by fin_cases a <;> rfl
theorem no_offset_3 : (![0, 0, 0] : Fin 3 → Nat) = fun _ => 0 := funext fun a => by fin_cases a <;> rfl

/-- The rows the kernel reads are the input's tokens, two to a row. -/
theorem V_rows : V m c main_v0 = (shapeCast S16384x128 (argZ m c) shapeCasts_S32x1024x64_S16384x128 : Vec Ideal S16384x128 .f32) := by
  show StableHlo.after hostOps0 _ (Proc.devRef .tc main_v0) = _
  after_results
  rfl

/-- The scaled codebook that it reads. -/
theorem V_scaled : V m c main_v2 = (mulf (broadcastInDim S1024x64 ![] bcast_S_S1024x64 (constant S_ .f32 0xC0000000#32)) (argW m c) : FVec Ideal S1024x64 .f32) := by
  after_results_simp <;> rfl

/-- And the codebook's squared norms. -/
theorem V_norms : V m c main_v5 = (broadcastInDim S1x1024 ![1] bcast_S1024_S1x1024_1
    (Host.reduceAdd (mulf (argW m c) (argW m c)) (constant S_ .f32 0x00000000#32) reducesTo_S1024x64_S1024_d1 h_S_) : FVec Ideal S1x1024 .f32) := by
  after_results_simp <;> rfl

/-- The tokens, one to a row. -/
abbrev tokens : FVec Ideal Cert.NearestReferenceIdeal.S32768x64 .f32 :=
  shapeCast _ (argZ m c) Cert.NearestReferenceIdeal.Gen.shapeCasts_S32x1024x64_S32768x64

theorem left_token (r : Fin 16384) (k : Fin 64) :
    V m c main_v0 (ix2 (n0 := 16384) (n1 := 128) r ⟨k.val, by omega⟩) = tokens m c (ix2 ⟨2 * r.val, by omega⟩ k) := by
  rw [V_rows]
  pointwise [tokens]
  exact congrArg (argZ m c) (ix3_ext (by dsimp only; omega) (by dsimp only; omega) (by dsimp only; omega))

theorem right_token (r : Fin 16384) (k : Fin 64) :
    V m c main_v0 (ix2 (n0 := 16384) (n1 := 128) r ⟨64 + k.val, by omega⟩) = tokens m c (ix2 ⟨2 * r.val + 1, by omega⟩ k) := by
  rw [V_rows]
  pointwise [tokens]
  exact congrArg (argZ m c) (ix3_ext (by dsimp only; omega) (by dsimp only; omega) rfl)

theorem block_z (t : Fin cfg0.N) (i : Fin 2048) (k : Fin 128) : (iblk m c 0 t : Vec Ideal S2048x128 .f32) (ix2 i k)
    = V m c main_v0 (ix2 (n0 := 16384) (n1 := 128) ⟨t.val * 2048 + i.val, by have h := Nat.lt_of_lt_of_eq t.isLt N_0; omega⟩ k) := by
  blk_simp [iblk]
  refine congrArg (V m c main_v0) ?_
  blk_ext [index_0]

theorem block_w (t : Fin cfg0.N) : (iblk m c 1 t : Vec Ideal S1024x64 .f32) = V m c main_v2 := by
  funext j
  blk_simp [iblk]
  refine congrArg (V m c main_v2) ?_
  blk_ext [index_1]

theorem block_q (t : Fin cfg0.N) : (iblk m c 2 t : Vec Ideal S1x1024 .f32) = V m c main_v5 := by
  funext j
  blk_simp [iblk]
  refine congrArg (V m c main_v5) ?_
  blk_ext [index_2]

/-- The code of a row's left half, and of its right half. -/
theorem pay_left (x : Vec Ideal S2048x128 .f32) (w : Vec Ideal S1024x64 .f32) (q : Vec Ideal S1x1024 .f32) (i : Fin 2048) :
    k0_pay3 (F := Ideal) x w q (ix3 0 0 i) = code fun j => ∑ k : Fin 64, x (ix2 i ⟨k.val, by omega⟩) * x (ix2 i ⟨k.val, by omega⟩) + q (ix2 0 j)
      + ∑ k : Fin 64, x (ix2 i ⟨k.val, by omega⟩) * w (ix2 j k) := by
  pointwise [k0_pay3, k0_pay2]
  exact code_words _

theorem pay_right (x : Vec Ideal S2048x128 .f32) (w : Vec Ideal S1024x64 .f32) (q : Vec Ideal S1x1024 .f32) (i : Fin 2048) :
    k0_pay1 (F := Ideal) (k0_pay5 x w) (k0_pay6 x) q (ix3 0 0 i) = code fun j => ∑ k : Fin 64, x (ix2 i ⟨64 + k.val, by omega⟩) * x (ix2 i ⟨64 + k.val, by omega⟩) + q (ix2 0 j)
      + ∑ k : Fin 64, x (ix2 i ⟨64 + k.val, by omega⟩) * w (ix2 j k) := by
  pointwise [k0_pay1, k0_pay5, k0_pay6, k0_pay4, k0_pay2]
  exact code_words _

/-- The codebook's squared norms and its scaled rows, entry by entry. -/
theorem norm_at (j : Fin 1024) : (V m c main_v5 : Vec Ideal S1x1024 .f32) (ix2 0 j) = ∑ k : Fin 64, argW m c (ix2 j k) * argW m c (ix2 j k) := by
  rw [V_norms]
  pointwise

theorem scaled_at (j : Fin 1024) (k : Fin 64) : (V m c main_v2 : Vec Ideal S1024x64 .f32) (ix2 j k) = Ideal.ofBits .f32 0xC0000000#32 * argW m c (ix2 j k) := by
  rw [V_scaled]
  pointwise

theorem left_code (t : Fin cfg0.N) (i : Fin 2048) (hi : 2 * (t.val * 2048 + i.val) < 32768) :
    k0_pay3 (F := Ideal) (iblk m c 0 t) (iblk m c 1 t) (iblk m c 2 t) (ix3 0 0 i) = nearest (tokens m c) (argW m c) ⟨2 * (t.val * 2048 + i.val), hi⟩ := by
  rw [pay_left, block_w, block_q]
  exact congrArg code (funext fun j => far_of (fun k => (block_z m c t i _).trans (left_token m c _ k)) (norm_at m c j) (scaled_at m c j))

theorem right_code (t : Fin cfg0.N) (i : Fin 2048) (hi : 2 * (t.val * 2048 + i.val) + 1 < 32768) :
    k0_pay1 (F := Ideal) (k0_pay5 (iblk m c 0 t) (iblk m c 1 t)) (k0_pay6 (iblk m c 0 t)) (iblk m c 2 t) (ix3 0 0 i)
      = nearest (tokens m c) (argW m c) ⟨2 * (t.val * 2048 + i.val) + 1, hi⟩ := by
  rw [pay_right, block_w, block_q]
  exact congrArg code (funext fun j => far_of (fun k => (block_z m c t i _).trans (right_token m c _ k)) (norm_at m c j) (scaled_at m c j))

theorem place_3 (t : Fin cfg0.N) (i : Fin 2048) : ((cfg0.win 3).blk t).view.emb (ix3 0 0 i) = ix3 (n0 := 8) (n1 := 1) (n2 := 2048) ⟨t.val, Nat.lt_of_lt_of_eq t.isLt N_0⟩ 0 i := by
  blk_ext [index_3]

theorem place_4 (t : Fin cfg0.N) (i : Fin 2048) : ((cfg0.win 4).blk t).view.emb (ix3 0 0 i) = ix3 (n0 := 8) (n1 := 1) (n2 := 2048) ⟨t.val, Nat.lt_of_lt_of_eq t.isLt N_0⟩ 0 i := by
  blk_ext [index_4]

/-- What a point leaves for the even tokens, and for the odd ones. -/
theorem left_block (t : Fin cfg0.N) (i : Fin 2048) : out0_3 (iblk m c 0 t) (iblk m c 1 t) (iblk m c 2 t) (ix3 0 0 i)
    = lefts (tokens m c) (argW m c) (ix3 (n0 := 8) (n1 := 1) (n2 := 2048) ⟨t.val, Nat.lt_of_lt_of_eq t.isLt N_0⟩ 0 i) := by
  unfold out0_3
  rw [View.canon_unit_zero no_offset_3, View.ld_unit_zero no_offset, View.ld_unit_zero no_offset, View.ld_unit_zero no_offset]
  exact left_code m c t i _

theorem right_block (t : Fin cfg0.N) (i : Fin 2048) : out0_4 (iblk m c 0 t) (iblk m c 1 t) (iblk m c 2 t) (ix3 0 0 i)
    = rights (tokens m c) (argW m c) (ix3 (n0 := 8) (n1 := 1) (n2 := 2048) ⟨t.val, Nat.lt_of_lt_of_eq t.isLt N_0⟩ 0 i) := by
  unfold out0_4
  rw [View.canon_unit_zero no_offset_3, View.ld_unit_zero no_offset, View.ld_unit_zero no_offset, View.ld_unit_zero no_offset]
  exact right_code m c t i _

/-- The first result holds the codes of the even tokens. -/
theorem final_left : (dats m 0 c).arrAt 3 cfg0.N = lefts (tokens m c) (argW m c) := by
  refine (dats m 0 c).arrAt_eq_of_covers 3 _ (by decide +kernel) fun t hf y => ?_
  blk_simp
  rw [after0_3, show y = ix3 0 0 (y 2) from only_row y]
  exact (left_block m c t _).trans (congrArg (lefts (tokens m c) (argW m c)) (place_3 t _).symm)

/-- The second result holds those of the odd tokens. -/
theorem final_right : (dats m 0 c).arrAt 4 cfg0.N = rights (tokens m c) (argW m c) := by
  refine (dats m 0 c).arrAt_eq_of_covers 4 _ (by decide +kernel) fun t hf y => ?_
  blk_simp
  rw [after0_4, show y = ix3 0 0 (y 2) from only_row y]
  exact (right_block m c t _).trans (congrArg (rights (tokens m c) (argW m c)) (place_4 t _).symm)

end Cert.NearestIdeal.Value

end
-- ==== Proof.Finite.lean ====
/- The preconditions of the calls that compute distances: every entry of the arguments is a real number. -/
module

public import proofs.«01_k».proof.Proof.Distance
public import proofs.«01_k».proof.Proof.Range
public import proofs.«01_k».proof.Pre_finite_inputs
public import proofs.«01_k».proof.Pre_finite_rows
import Idealize.ShloMosaic.Lib.StableHlo.Predicate

@[expose] public section

noncomputable section

namespace Cert.Distance

open Idealize.ShloMosaic Cert.FirstLeast

/-- An extended real whose absolute value is below infinity is a real number. -/
theorem number_of (x : EReal) (h : Ideal.cmp .olt (max x (-x)) (Ideal.ofBits .f32 0x7F800000#32) = 1#1) : x = (x.toReal : EReal) := by
  have e : max x (-x) < (⊤ : EReal) := by
    rw [infinity_eq] at h
    exact of_decide_eq_true ((StableHlo.Predicate.ofBool_eq_one_iff _).1 h)
  refine (EReal.coe_toReal ?_ ?_).symm
  · rintro rfl
    exact absurd (lt_of_le_of_lt (le_max_left _ _) e) (lt_irrefl _)
  · rintro rfl
    exact absurd (lt_of_le_of_lt (le_max_right _ _) e) (by simp)

theorem real_of {s : Shape} (x : s.Idx → EReal) (h : ∀ i, Ideal.cmp .olt (max (x i) (-(x i))) (Ideal.ofBits .f32 0x7F800000#32) = 1#1) : Real x :=
  ⟨fun i => (x i).toReal, fun i => number_of _ (h i)⟩

theorem of_finite_inputs [Cert.Pre_finite_inputs.Facts] (z : FVec Ideal Cert.Pre_finite_inputs.S32x1024x64 .f32) (w : FVec Ideal Cert.Pre_finite_inputs.S1024x64 .f32)
    (h : Cert.Pre_finite_inputs.fn (F := Ideal) z w = fun _ => 1#1) : Real z ∧ Real w := by
  have H := (Range.and_bits _ _).1 (congrFun h fun a => a.elim0)
  have Z := (Range.and_reduce _ _ _ _ _).1 H.1
  have W := (Range.and_reduce _ _ _ _ _).1 H.2
  exact ⟨real_of z fun i => Z.2 i (funext fun a => a.elim0), real_of w fun i => W.2 i (funext fun a => a.elim0)⟩

theorem of_finite_rows [Cert.Pre_finite_rows.Facts] (r g : FVec Ideal Cert.Pre_finite_rows.S16384x128 .f32) (w : FVec Ideal Cert.Pre_finite_rows.S1024x64 .f32)
    (h : Cert.Pre_finite_rows.fn (F := Ideal) r g w = fun _ => 1#1) : Real r ∧ Real g ∧ Real w := by
  have H := (Range.and_bits _ _).1 (congrFun h fun a => a.elim0)
  have H' := (Range.and_bits _ _).1 H.1
  have R := (Range.and_reduce _ _ _ _ _).1 H'.1
  have G := (Range.and_reduce _ _ _ _ _).1 H'.2
  have W := (Range.and_reduce _ _ _ _ _).1 H.2
  exact ⟨real_of r fun i => R.2 i (funext fun a => a.elim0), real_of g fun i => G.2 i (funext fun a => a.elim0),
    real_of w fun i => W.2 i (funext fun a => a.elim0)⟩

end Cert.Distance

end
-- ==== Proof.NearestClaim.lean ====
/- The first call that computes distances against its reference: the codes of the even and of the odd tokens are the
   reference's, where every entry of the input and of the codebook is a real number. -/
module

public import proofs.«01_k».proof.Proof.NearestValue
public import proofs.«01_k».proof.Proof.Finite
public import proofs.«01_k».proof.Proof.Gen.Nearest.Frame
public import proofs.«01_k».proof.Proof.Gen.Pre_finite_inputs
public import proofs.«01_k».proof.Defs
import Idealize.ShloMosaic.Lib.Quiescent

@[expose] public section

noncomputable section

namespace Cert.Proof

open Idealize.ShloMosaic Idealize.SL.Sem

/-- The call runs at the machine's floats, its arguments and all counters end as they began. -/
theorem nearest_frame : quiescent_Nearest := fun m ρ _ => Nearest.Gen.frame m ρ

/-- And over the extended reals. -/
theorem nearest_frame_exact : quiescent_NearestIdeal := fun m ρ _ => NearestIdeal.Gen.frame m ρ

/-- Its reference runs, its arguments end as they began, and it has no counters. -/
theorem nearest_frame_reference : quiescent_NearestReferenceIdeal := fun m ρ _ =>
  (θ_run NearestReferenceIdeal.defs _ _).mono (fun r e => ⟨fun c => (e c).2.2, sem_eq_zero_of_no_sems (by decide) r.2⟩)
    (NearestReferenceIdeal.Value.run (F := Ideal) m ρ)

/-- The call and its reference give the same codes over the extended reals. -/
theorem nearest_results : algebraic_NearestIdeal_NearestReferenceIdeal_pre_finite_inputs := fun m ρ m' ρ' h hargs => by
  refine ⟨_, _, NearestIdeal.Value.run_blocks (F := Ideal) m ρ, ?_⟩
  refine (θ_run NearestReferenceIdeal.defs _ _).mono (fun _ e c => ⟨(e c).1.trans ?_, (e c).2.1.trans ?_, (e c).2.2⟩)
    (NearestReferenceIdeal.Value.run (F := Ideal) m' ρ')
  · have H := Distance.of_finite_inputs _ _ (h c)
    rw [(hargs c).1, (hargs c).2]
    exact ((NearestIdeal.Value.final_left m c).trans (Distance.lefts_eq (H.1.taken _) H.2)).symm
  · have H := Distance.of_finite_inputs _ _ (h c)
    rw [(hargs c).1, (hargs c).2]
    exact ((NearestIdeal.Value.final_right m c).trans (Distance.rights_eq (H.1.taken _) H.2)).symm

end Cert.Proof

end
-- ==== Proof.NextReferenceRun.lean ====
/- The further layers' reference as a list of operations, and what they leave: its index of the nearest code is
   the first layer's, of the residual. -/
module

public import proofs.«01_k».proof.Proof.Gen.NextReferenceIdeal
public import Idealize.ShloMosaic.Lib.StableHlo.Run
public import proofs.«01_k».proof.Proof.NearestReferenceRun

@[expose] public section

noncomputable section

namespace Cert.NextReferenceIdeal.Value

open Cert.NextReferenceIdeal Cert.NextReferenceIdeal.Gen Idealize.ShloMosaic Idealize.ShloMosaic.TcCoe Idealize.SL.Sem Idealize.ShloMosaic.StableHlo

variable {F : FTy → Type} [FloatOps F]

/-- The reference's operations, in order; those of the index of the smallest entry are written over typed references. -/
abbrev ops : List (HloOp τ sig (Elt F)) :=
  [ binary main_arg0 main_arg1 main_v0 (subf : (⟨S16384x128, .f32⟩ : BufTy).Contents (Elt F) → (⟨S16384x128, .f32⟩ : BufTy).Contents (Elt F) → (⟨S16384x128, .f32⟩ : BufTy).Contents (Elt F)),
    reshape main_v0 main_v1 (rfl : (.f32 : EltTy) = .f32) shapeCasts_S16384x128_S32768x64,
    binary main_v1 main_v1 main_v2 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v2 main_cst main_v3 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    binary main_arg2 main_arg2 main_v5 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S32768x1024 ![0, 1] bcast_S32768x1_S32768x1024_0_1 : (⟨S32768x1, .f32⟩ : BufTy).Contents (Elt F) → (⟨S32768x1024, .f32⟩ : BufTy).Contents (Elt F)),
    unary main_v7 main_v9 (broadcastInDim S32768x1024 ![0, 1] bcast_S1x1024_S32768x1024_0_1 : (⟨S1x1024, .f32⟩ : BufTy).Contents (Elt F) → (⟨S32768x1024, .f32⟩ : BufTy).Contents (Elt F)),
    binary main_v8 main_v9 main_v10 (addf : (⟨S32768x1024, .f32⟩ : BufTy).Contents (Elt F) → (⟨S32768x1024, .f32⟩ : BufTy).Contents (Elt F) → (⟨S32768x1024, .f32⟩ : BufTy).Contents (Elt F)),
    unary main_arg2 main_v11 ((transpose S64x1024 [1, 0] · transposes_S1024x64_S64x1024_1_0) : (⟨S1024x64, .f32⟩ : BufTy).Contents (Elt F) → (⟨S64x1024, .f32⟩ : BufTy).Contents (Elt F)),
    binary main_v1 main_v11 main_v12 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_1 (constant S_ .f32 0x40000000#32),
    unary main_cst_1 main_v13 (broadcastInDim S32768x1024 ![] bcast_S_S32768x1024 : (⟨S_, .f32⟩ : BufTy).Contents (Elt F) → (⟨S32768x1024, .f32⟩ : BufTy).Contents (Elt F)),
    binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
    binary main_v10 main_v14 main_v15 (subf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .i32⟩) main_v16) (fun x y u v j => (Host.argReduce reducer_argmin_f32_i32 x y u v reducesTo_S32768x1024_S32768_d1 h_S_ j).2),
    unary main_v16 main_v17 ((Host.slice S16384 ![0] ![2] · slicesBy_S32768_S16384_0s2) : (⟨S32768, .i32⟩ : BufTy).Contents (Elt F) → (⟨S16384, .i32⟩ : BufTy).Contents (Elt F)),
    reshape main_v17 main_v18 (rfl : (.i32 : EltTy) = .i32) shapeCasts_S16384_S8x1x2048,
    unary main_v16 main_v19 ((Host.slice S16384 ![1] ![2] · slicesBy_S32768_S16384_1s2) : (⟨S32768, .i32⟩ : BufTy).Contents (Elt F) → (⟨S16384, .i32⟩ : BufTy).Contents (Elt F)),
    reshape main_v19 main_v20 (rfl : (.i32 : EltTy) = .i32) shapeCasts_S16384_S8x1x2048,
    binary main_v0 main_v0 main_v21 (mulf : (⟨S16384x128, .f32⟩ : BufTy).Contents (Elt F) → (⟨S16384x128, .f32⟩ : BufTy).Contents (Elt F) → (⟨S16384x128, .f32⟩ : BufTy).Contents (Elt F)),
    nullary main_cst_2 (constant S_ .f32 0x00000000#32),
    binary main_v21 main_cst_2 main_v22 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    reshape main_v22 main_v23 (rfl : (.f32 : EltTy) = .f32) shapeCasts_S_S1x1 ]

theorem main_eq (c : Dev nD) : main (F := F) c = seq ops := rfl

theorem no_scoped_refs : (Finset.univ.filter fun b : Ref sig .tc => b.isScoped) = ∅ := by decide

theorem no_scoped_sems : (Finset.univ.filter fun s : SemLoc sig => s.isScoped .tc) = ∅ := by decide

theorem ops_sub : (ops : List (HloOp τ sig (Elt F))).Forall fun op => op.bufs ⊆ tcRefs τ sig :=
  ⟨binary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., reshape_bufs_sub .., unary_bufs_sub .., reshape_bufs_sub .., binary_bufs_sub .., nullary_bufs_sub .., binary_bufs_sub .., reshape_bufs_sub ..⟩

open Cert.NearestReferenceIdeal.Value (distances places evens odds)

/-- The residual's rows, two tokens to a row, as one token to a row. -/
abbrev tokens (r g : FVec F S16384x128 .f32) : FVec F S32768x64 .f32 := shapeCast _ (subf r g) shapeCasts_S16384x128_S32768x64

/-- The sum of squares of all entries. -/
abbrev squares (x : FVec F S16384x128 .f32) : FVec F S1x1 .f32 :=
  shapeCast _ (Host.reduceAdd (mulf x x) (constant S_ .f32 0x00000000#32) reducesTo_S16384x128_S_d0_1 h_S_) shapeCasts_S_S1x1

set_option maxHeartbeats 2000000 in
/-- The reference runs, and its results are the residual, the nearest codes of its even and of its odd tokens, and its
    sum of squares. -/
theorem run (m : (l : Loc nD τ sig) → Buf (Elt F) l) (ρ : Dev nD → PrngReg) :
    θ_run defs (onTc (τ := τ) (main (F := F))) ⟨m, fun _ => 0, ρ⟩ fun r => ∀ c : Dev nD,
      r.2.mem ((c.tc : Thread nD τ).loc main_v0) = subf (m ((c.tc : Thread nD τ).loc main_arg0)) (m ((c.tc : Thread nD τ).loc main_arg1))
      ∧ r.2.mem ((c.tc : Thread nD τ).loc main_v18) = evens (places (distances (tokens (m ((c.tc : Thread nD τ).loc main_arg0)) (m ((c.tc : Thread nD τ).loc main_arg1))) (m ((c.tc : Thread nD τ).loc main_arg2))))
      ∧ r.2.mem ((c.tc : Thread nD τ).loc main_v20) = odds (places (distances (tokens (m ((c.tc : Thread nD τ).loc main_arg0)) (m ((c.tc : Thread nD τ).loc main_arg1))) (m ((c.tc : Thread nD τ).loc main_arg2))))
      ∧ r.2.mem ((c.tc : Thread nD τ).loc main_v23) = squares (subf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v0).trans (by after_results_simp <;> rfl), (h c main_v18).trans (by after_results_simp <;> rfl),
      (h c main_v20).trans (by after_results_simp <;> rfl), (h c main_v23).trans (by after_results_simp <;> rfl), (h c main_arg0).trans (by after_results_simp <;> rfl),
      (h c main_arg1).trans (by after_results_simp <;> rfl), (h c main_arg2).trans (by after_results_simp <;> rfl)⟩)
    (run_seq no_scoped_refs no_scoped_sems defs main (fun _ => ops) main_eq (fun _ => ops_sub) m ρ)

end Cert.NextReferenceIdeal.Value

end
-- ==== Proof.NextValue.lean ====
/- The further layers' distance call: what its four results hold, from the arguments. -/
module

public import proofs.«01_k».proof.Proof.Distance
public import proofs.«01_k».proof.Proof.NextReferenceRun
public import proofs.«01_k».proof.Proof.Gen.NextIdeal.Value
public import Idealize.ShloMosaic.Lib.Pipeline.ValueKit

@[expose] public section

noncomputable section

namespace Cert.NextIdeal.Value

open Cert.NextIdeal Cert.NextIdeal.Gen Idealize.ShloMosaic Idealize.ShloMosaic.TcCoe Idealize.SL.Sem
open Idealize.ShloMosaic.Pipeline (Dat)
open Cert.Distance Cert.FirstLeast

local notation "ℓ" => Loc nD τ sig

variable (m : (l : ℓ) → Buf (Elt Ideal) l) (c : Dev nD)

abbrev argR : FVec Ideal S16384x128 .f32 := m ((c : Thread nD τ).loc main_arg0)
abbrev argG : FVec Ideal S16384x128 .f32 := m ((c : Thread nD τ).loc main_arg1)
abbrev argW : FVec Ideal S1024x64 .f32 := m ((c : Thread nD τ).loc main_arg2)

/-- The residual, and its tokens, one to a row. -/
abbrev residual : FVec Ideal S16384x128 .f32 := subf (argR m c) (argG m c)

abbrev tokens : FVec Ideal Cert.NearestReferenceIdeal.S32768x64 .f32 := Cert.NextReferenceIdeal.Value.tokens (argR m c) (argG m c)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0, 0] := (by decide +kernel : ∀ t : Fin grid0.N, _)
theorem index_6 : ∀ t : Fin cfg0.N, win0_6.index t = ![t.val, 0, 0] := (by decide +kernel : ∀ t : Fin grid0.N, _)

/-- A one-element array has one index. -/
theorem only_cell (j j' : S1x1.Idx) : j = j' := by
  idx_vars j
  rw [show j' = ix2 (j' 0) (j' 1) from eq_ix2 j']
  exact congrArg₂ ix2 (Subsingleton.elim _ _) (Subsingleton.elim _ _)

/-- The scaled codebook that the kernel reads. -/
theorem V_scaled : V m c main_v1 = (mulf (broadcastInDim S1024x64 ![] bcast_S_S1024x64 (constant S_ .f32 0xC0000000#32)) (argW m c) : FVec Ideal S1024x64 .f32) := by
  after_results_simp <;> rfl

/-- And the codebook's squared norms. -/
theorem V_norms : V m c main_v4 = (broadcastInDim S1x1024 ![1] bcast_S1024_S1x1024_1
    (Host.reduceAdd (mulf (argW m c) (argW m c)) (constant S_ .f32 0x00000000#32) reducesTo_S1024x64_S1024_d1 h_S_) : FVec Ideal S1x1024 .f32) := by
  after_results_simp <;> rfl

theorem norm_at (j : Fin 1024) : (V m c main_v4 : Vec Ideal S1x1024 .f32) (ix2 0 j) = ∑ k : Fin 64, argW m c (ix2 j k) * argW m c (ix2 j k) := by
  rw [V_norms]
  pointwise

theorem scaled_at (j : Fin 1024) (k : Fin 64) : (V m c main_v1 : Vec Ideal S1024x64 .f32) (ix2 j k) = Ideal.ofBits .f32 0xC0000000#32 * argW m c (ix2 j k) := by
  rw [V_scaled]
  pointwise

/-- Row `i` of block `t` among all rows. -/
def rowOf (t : Fin cfg0.N) (i : Fin 2048) : Fin 16384 := ⟨t.val * 2048 + i.val, by
  have h := Nat.lt_of_lt_of_eq t.isLt N_0
  omega⟩

theorem block_r (t : Fin cfg0.N) (i : Fin 2048) (k : Fin 128) : (iblk m c 0 t : Vec Ideal S2048x128 .f32) (ix2 i k) = argR m c (ix2 (rowOf t i) k) := by
  blk_simp [iblk]
  refine congrArg (argR m c) ?_
  unfold rowOf
  blk_ext [index_0]

theorem block_g (t : Fin cfg0.N) (i : Fin 2048) (k : Fin 128) : (iblk m c 1 t : Vec Ideal S2048x128 .f32) (ix2 i k) = argG m c (ix2 (rowOf t i) k) := by
  blk_simp [iblk]
  refine congrArg (argG m c) ?_
  unfold rowOf
  blk_ext [index_1]

theorem block_x (t : Fin cfg0.N) (i : Fin 2048) (k : Fin 128) :
    (subf (iblk m c 0 t) (iblk m c 1 t) : FVec Ideal S2048x128 .f32) (ix2 i k) = residual m c (ix2 (rowOf t i) k) :=
  congrArg₂ (fun a b : EReal => a - b) (block_r m c t i k) (block_g m c t i k)

theorem block_w (t : Fin cfg0.N) : (iblk m c 2 t : Vec Ideal S1024x64 .f32) = V m c main_v1 := by
  funext j
  blk_simp [iblk]
  refine congrArg (V m c main_v1) ?_
  blk_ext [index_2]

theorem block_q (t : Fin cfg0.N) : (iblk m c 3 t : Vec Ideal S1x1024 .f32) = V m c main_v4 := by
  funext j
  blk_simp [iblk]
  refine congrArg (V m c main_v4) ?_
  blk_ext [index_3]

theorem rows_after (t : Fin cfg0.N) : (outsAt0 m c t.val t.isLt).1 = k0_pay3 (F := Ideal) (iblk m c 0 t) (iblk m c 1 t) := by
  funext y
  by_cases h0 : t.val % 8 = 0
  · rw [outsAt0_A m c t h0]
    frame_out
  · rw [outsAt0_B m c t h0]
    frame_out

theorem left_after (t : Fin cfg0.N) : (outsAt0 m c t.val t.isLt).2.1 = k0_pay4 (F := Ideal) (iblk m c 0 t) (iblk m c 1 t) (iblk m c 2 t) (iblk m c 3 t) := by
  funext y
  by_cases h0 : t.val % 8 = 0
  · rw [outsAt0_A m c t h0]
    frame_out
  · rw [outsAt0_B m c t h0]
    frame_out

theorem right_after (t : Fin cfg0.N) : (outsAt0 m c t.val t.isLt).2.2.1
    = k0_pay1 (F := Ideal) (k0_pay5 (iblk m c 0 t) (iblk m c 1 t)) (k0_pay6 (iblk m c 0 t) (iblk m c 1 t) (iblk m c 2 t)) (iblk m c 3 t) := by
  funext y
  by_cases h0 : t.val % 8 = 0
  · rw [outsAt0_A m c t h0]
    frame_out
  · rw [outsAt0_B m c t h0]
    frame_out

theorem sum_first (t : Fin cfg0.N) (h0 : t.val % 8 = 0) : (outsAt0 m c t.val t.isLt).2.2.2
    = fun _ => k0_pay2 (F := Ideal) (k0_pay3 (iblk m c 0 t) (iblk m c 1 t)) (Ideal.ofBits .f32 0#32) := by
  funext y
  rw [outsAt0_A m c t h0]
  frame_out
  rfl

theorem sum_between (t : Fin cfg0.N) (h0 : ¬t.val % 8 = 0) : (outsAt0 m c t.val t.isLt).2.2.2
    = fun j => k0_pay2 (F := Ideal) (k0_pay3 (iblk m c 0 t) (iblk m c 1 t)) ((outsAt0 m c (t.val - 1) (by omega)).2.2.2 j) := by
  funext y
  rw [outsAt0_B m c t h0]
  frame_out
  exact congrArg (k0_pay2 _) (congrArg (outsAt0 m c (t.val - 1) _).2.2.2 (only_cell _ _))

/-- A row of the residual holds two tokens, an even one and the odd one after it. -/
theorem left_token (r : Fin 16384) (k : Fin 64) : tokens m c (ix2 ⟨2 * r.val, by omega⟩ k) = residual m c (ix2 r ⟨k.val, by omega⟩) := by
  pointwise [tokens]
  exact congrArg (residual m c) (congrArg (ix2 r) (Fin.ext (by dsimp only; omega)))

theorem right_token (r : Fin 16384) (k : Fin 64) : tokens m c (ix2 ⟨2 * r.val + 1, by omega⟩ k) = residual m c (ix2 r ⟨64 + k.val, by omega⟩) := by
  pointwise [tokens]
  exact congrArg (residual m c) (congrArg (ix2 r) (Fin.ext (by dsimp only; omega)))

/-- The code of a row's left half, and of its right half. -/
theorem pay_left (r g : Vec Ideal S2048x128 .f32) (w : Vec Ideal S1024x64 .f32) (q : Vec Ideal S1x1024 .f32) (i : Fin 2048) :
    k0_pay4 (F := Ideal) r g w q (ix3 0 0 i) = code fun j =>
      ∑ k : Fin 64, (r (ix2 i ⟨k.val, by omega⟩) - g (ix2 i ⟨k.val, by omega⟩)) * (r (ix2 i ⟨k.val, by omega⟩) - g (ix2 i ⟨k.val, by omega⟩)) + q (ix2 0 j)
      + ∑ k : Fin 64, (r (ix2 i ⟨k.val, by omega⟩) - g (ix2 i ⟨k.val, by omega⟩)) * w (ix2 j k) := by
  pointwise [k0_pay4, k0_pay3]
  exact code_words _

theorem pay_right (r g : Vec Ideal S2048x128 .f32) (w : Vec Ideal S1024x64 .f32) (q : Vec Ideal S1x1024 .f32) (i : Fin 2048) :
    k0_pay1 (F := Ideal) (k0_pay5 r g) (k0_pay6 r g w) q (ix3 0 0 i) = code fun j =>
      ∑ k : Fin 64, (r (ix2 i ⟨64 + k.val, by omega⟩) - g (ix2 i ⟨64 + k.val, by omega⟩)) * (r (ix2 i ⟨64 + k.val, by omega⟩) - g (ix2 i ⟨64 + k.val, by omega⟩)) + q (ix2 0 j)
      + ∑ k : Fin 64, (r (ix2 i ⟨64 + k.val, by omega⟩) - g (ix2 i ⟨64 + k.val, by omega⟩)) * w (ix2 j k) := by
  pointwise [k0_pay1, k0_pay5, k0_pay6, k0_pay3]
  exact code_words _

/-- A point's codes are those of its tokens. -/
theorem left_code (t : Fin cfg0.N) (i : Fin 2048) (hi : 2 * (t.val * 2048 + i.val) < 32768) :
    k0_pay4 (F := Ideal) (iblk m c 0 t) (iblk m c 1 t) (iblk m c 2 t) (iblk m c 3 t) (ix3 0 0 i)
      = nearest (tokens m c) (argW m c) ⟨2 * (t.val * 2048 + i.val), hi⟩ := by
  rw [pay_left, block_w, block_q]
  exact congrArg code (funext fun j => far_of (fun k => (block_x m c t i _).trans (left_token m c (rowOf t i) k).symm)
    (norm_at m c j) (scaled_at m c j))

theorem right_code (t : Fin cfg0.N) (i : Fin 2048) (hi : 2 * (t.val * 2048 + i.val) + 1 < 32768) :
    k0_pay1 (F := Ideal) (k0_pay5 (iblk m c 0 t) (iblk m c 1 t)) (k0_pay6 (iblk m c 0 t) (iblk m c 1 t) (iblk m c 2 t)) (iblk m c 3 t) (ix3 0 0 i)
      = nearest (tokens m c) (argW m c) ⟨2 * (t.val * 2048 + i.val) + 1, hi⟩ := by
  rw [pay_right, block_w, block_q]
  exact congrArg code (funext fun j => far_of (fun k => (block_x m c t i _).trans (right_token m c (rowOf t i) k).symm)
    (norm_at m c j) (scaled_at m c j))

/-- What a point leaves for the even tokens, and for the odd ones. -/
theorem left_block (t : Fin cfg0.N) (i : Fin 2048) : (outsAt0 m c t.val t.isLt).2.1 (ix3 0 0 i)
    = lefts (tokens m c) (argW m c) (ix3 (n0 := 8) (n1 := 1) (n2 := 2048) ⟨t.val, Nat.lt_of_lt_of_eq t.isLt N_0⟩ 0 i) := by
  rw [left_after]
  exact left_code m c t i _

theorem right_block (t : Fin cfg0.N) (i : Fin 2048) : (outsAt0 m c t.val t.isLt).2.2.1 (ix3 0 0 i)
    = rights (tokens m c) (argW m c) (ix3 (n0 := 8) (n1 := 1) (n2 := 2048) ⟨t.val, Nat.lt_of_lt_of_eq t.isLt N_0⟩ 0 i) := by
  rw [right_after]
  exact right_code m c t i _

theorem place_4 (t : Fin cfg0.N) (i : Fin 2048) (k : Fin 128) : ((cfg0.win 4).blk t).view.emb (ix2 i k) = ix2 (n0 := 16384) (n1 := 128) (rowOf t i) k := by
  unfold rowOf
  blk_ext [index_4]

theorem place_5 (t : Fin cfg0.N) (i : Fin 2048) : ((cfg0.win 5).blk t).view.emb (ix3 0 0 i) = ix3 (n0 := 8) (n1 := 1) (n2 := 2048) ⟨t.val, Nat.lt_of_lt_of_eq t.isLt N_0⟩ 0 i := by
  blk_ext [index_5]

theorem place_6 (t : Fin cfg0.N) (i : Fin 2048) : ((cfg0.win 6).blk t).view.emb (ix3 0 0 i) = ix3 (n0 := 8) (n1 := 1) (n2 := 2048) ⟨t.val, Nat.lt_of_lt_of_eq t.isLt N_0⟩ 0 i := by
  blk_ext [index_6]

/-- The first result is the residual. -/
theorem final_rows : (dats m 0 c).arrAt 4 cfg0.N = residual m c := by
  refine (dats m 0 c).arrAt_eq_of_covers 4 _ (by decide +kernel) fun t hf y => ?_
  blk_simp
  rw [after0_4, rows_after, show y = ix2 (n0 := 2048) (n1 := 128) (y 0) (y 1) from eq_ix2 y]
  exact (block_x m c t _ _).trans (congrArg (residual m c) (place_4 t _ _).symm)

/-- The second holds the codes of its even tokens. -/
theorem final_left : (dats m 0 c).arrAt 5 cfg0.N = lefts (tokens m c) (argW m c) := by
  refine (dats m 0 c).arrAt_eq_of_covers 5 _ (by decide +kernel) fun t hf y => ?_
  blk_simp
  rw [after0_5, show y = ix3 0 0 (y 2) from only_row y]
  exact (left_block m c t _).trans (congrArg (lefts (tokens m c) (argW m c)) (place_5 t _).symm)

/-- The third those of the odd ones. -/
theorem final_right : (dats m 0 c).arrAt 6 cfg0.N = rights (tokens m c) (argW m c) := by
  refine (dats m 0 c).arrAt_eq_of_covers 6 _ (by decide +kernel) fun t hf y => ?_
  blk_simp
  rw [after0_6, show y = ix3 0 0 (y 2) from only_row y]
  exact (right_block m c t _).trans (congrArg (rights (tokens m c) (argW m c)) (place_6 t _).symm)

/-- The sum of squares of one point's block. -/
def part (t : Fin cfg0.N) : EReal := ∑ i : Fin 2048, ∑ j : Fin 128, residual m c (ix2 (rowOf t i) j) * residual m c (ix2 (rowOf t i) j)

/-- The same at a number that need not be a point. -/
def partAt (k : ℕ) : EReal := if h : k < cfg0.N then part m c ⟨k, h⟩ else 0

theorem pay2_eq (r g : Vec Ideal S2048x128 .f32) (a : EReal) :
    k0_pay2 (F := Ideal) (k0_pay3 r g) a = a + ∑ i : Fin 2048, ∑ j : Fin 128, (r (ix2 i j) - g (ix2 i j)) * (r (ix2 i j) - g (ix2 i j)) := by
  pointwise [k0_pay2, k0_pay3]

/-- Adding a block's sum of squares. -/
theorem pay2_block (t : Fin cfg0.N) (a : EReal) : k0_pay2 (F := Ideal) (k0_pay3 (iblk m c 0 t) (iblk m c 1 t)) a = a + partAt m c t.val := by
  rw [pay2_eq]
  unfold partAt
  rw [dif_pos t.isLt]
  exact congrArg (a + ·) (Finset.sum_congr rfl fun i _ => Finset.sum_congr rfl fun j _ =>
    congrArg₂ (· * ·) (block_x m c t i j) (block_x m c t i j))

/-- After each point the fourth result holds the sum over the points so far. -/
theorem sum_upto : ∀ (n : ℕ) (h : n < cfg0.N), (outsAt0 m c n h).2.2.2 = fun _ => ∑ k ∈ Finset.range (n + 1), partAt m c k
  | 0, h => by
    rw [show (outsAt0 m c 0 h).2.2.2 = _ from sum_first m c ⟨0, h⟩ rfl, pay2_block, Finset.sum_range_one]
    funext j
    exact (congrArg (· + _) Ideal.ofBits_zero_f32).trans (zero_add _)
  | n + 1, h => by
    have h0 : ¬(⟨n + 1, h⟩ : Fin cfg0.N).val % 8 = 0 := by
      have := Nat.lt_of_lt_of_eq h N_0
      dsimp only
      omega
    rw [show (outsAt0 m c (n + 1) h).2.2.2 = _ from sum_between m c ⟨n + 1, h⟩ h0]
    funext j
    rw [pay2_block, show outsAt0 m c (n + 1 - 1) _ = outsAt0 m c n (Nat.lt_of_succ_lt h) from rfl, sum_upto n, Finset.sum_range_succ _ (n + 1)]

/-- The sum over the points is the sum over the whole array. -/
theorem sum_parts : ∑ k ∈ Finset.range 8, partAt m c k = ∑ i : Fin 16384, ∑ j : Fin 128, residual m c (ix2 i j) * residual m c (ix2 i j) := by
  rw [Finset.sum_range]
  have hp : ∀ k : Fin 8, partAt m c k.val = part m c ⟨k.val, Nat.lt_of_lt_of_eq k.isLt N_0.symm⟩ := fun k => by
    unfold partAt
    rw [dif_pos (Nat.lt_of_lt_of_eq k.isLt N_0.symm)]
  simp only [hp]
  exact Fin.sum_mul_add_congr fun t i hl => rfl

theorem squares_at (x : FVec Ideal S16384x128 .f32) (j : S1x1.Idx) :
    Cert.NextReferenceIdeal.Value.squares (F := Ideal) x j = ∑ i : Fin 16384, ∑ k : Fin 128, x (ix2 i k) * x (ix2 i k) := by
  idx_vars j
  pointwise [Cert.NextReferenceIdeal.Value.squares]

/-- The fourth result is the residual's sum of squares. -/
theorem final_sum : (dats m 0 c).arrAt 7 cfg0.N = Cert.NextReferenceIdeal.Value.squares (F := Ideal) (residual m c) := by
  refine (dats m 0 c).arrAt_eq_of_after_last 7 t0_7 (by decide +kernel) _ fun j => ?_
  blk_simp
  rw [after0_7, sum_upto, show t0_7.val + 1 = 8 from rfl, sum_parts]
  exact (squares_at (residual m c) j).symm

end Cert.NextIdeal.Value

end
-- ==== Proof.NextClaim.lean ====
/- The further layers' distance call against its reference: the residual, the codes of its even and of its odd tokens
   and its sum of squares are the reference's, where every entry of the arguments is a real number. -/
module

public import proofs.«01_k».proof.Proof.NextValue
public import proofs.«01_k».proof.Proof.Finite
public import proofs.«01_k».proof.Proof.Gen.Next.Frame
public import proofs.«01_k».proof.Proof.Gen.Pre_finite_rows
public import proofs.«01_k».proof.Defs
import Idealize.ShloMosaic.Lib.Quiescent

@[expose] public section

noncomputable section

namespace Cert.Distance

open Idealize.ShloMosaic

/-- The difference of real numbers is a real number. -/
theorem Real.less {s : Shape} {f g : FVec Ideal s .f32} (hf : Real f) (hg : Real g) : Real (subf f g : FVec Ideal s .f32) :=
  let ⟨a, ha⟩ := hf
  let ⟨b, hb⟩ := hg
  ⟨fun i => a i - b i, fun i => (congrArg₂ (fun x y : EReal => x - y) (ha i) (hb i)).trans (EReal.coe_sub _ _).symm⟩

end Cert.Distance

namespace Cert.Proof

open Idealize.ShloMosaic Idealize.SL.Sem

/-- The call runs at the machine's floats, its arguments and all counters end as they began. -/
theorem next_frame : quiescent_Next := fun m ρ _ => Next.Gen.frame m ρ

/-- And over the extended reals. -/
theorem next_frame_exact : quiescent_NextIdeal := fun m ρ _ => NextIdeal.Gen.frame m ρ

/-- Its reference runs, its arguments end as they began, and it has no counters. -/
theorem next_frame_reference : quiescent_NextReferenceIdeal := fun m ρ _ =>
  (θ_run NextReferenceIdeal.defs _ _).mono (fun r e => ⟨fun c => (e c).2.2.2.2, sem_eq_zero_of_no_sems (by decide) r.2⟩)
    (NextReferenceIdeal.Value.run (F := Ideal) m ρ)

/-- The call and its reference give the same four results over the extended reals. -/
theorem next_results : algebraic_NextIdeal_NextReferenceIdeal_pre_finite_rows := fun m ρ m' ρ' h hargs => by
  refine ⟨_, _, _, _, NextIdeal.Value.run_blocks (F := Ideal) m ρ, ?_⟩
  refine (θ_run NextReferenceIdeal.defs _ _).mono
    (fun _ e c => ⟨(e c).1.trans ?_, (e c).2.1.trans ?_, (e c).2.2.1.trans ?_, (e c).2.2.2.1.trans ?_, (e c).2.2.2.2⟩)
    (NextReferenceIdeal.Value.run (F := Ideal) m' ρ')
  · rw [(hargs c).1, (hargs c).2.1]
    exact (NextIdeal.Value.final_rows m c).symm
  · have H := Distance.of_finite_rows _ _ _ (h c)
    rw [(hargs c).1, (hargs c).2.1, (hargs c).2.2]
    exact ((NextIdeal.Value.final_left m c).trans (Distance.lefts_eq ((H.1.less H.2.1).taken _) H.2.2)).symm
  · have H := Distance.of_finite_rows _ _ _ (h c)
    rw [(hargs c).1, (hargs c).2.1, (hargs c).2.2]
    exact ((NextIdeal.Value.final_right m c).trans (Distance.rights_eq ((H.1.less H.2.1).taken _) H.2.2)).symm
  · rw [(hargs c).1, (hargs c).2.1]
    exact (NextIdeal.Value.final_sum m c).symm

end Cert.Proof

end
-- ==== Proof.FinishRun.lean ====
/- The last call: what its body leaves in each result's block, at the first grid point, at the ones between and at
   the last. The names follow the call's arguments: `z` the input's block, `r` and `g` the last residual's and the
   last gathered rows' blocks, `h` the histograms, `s` the three sums of squares of the layers before, and `a` what
   the point before left in the loss. -/
module

public import proofs.«01_k».proof.Proof.Gen.FinishIdeal.Value
public import Idealize.ShloMosaic.Lib.Pipeline.Value
public import Idealize.ShloMosaic.Lib.Pointwise
public import Idealize.ShloMosaic.Lib.Tactic

@[expose] public section

noncomputable section

namespace Cert.FinishIdeal.Value

open Cert.FinishIdeal Cert.FinishIdeal.Gen Idealize.ShloMosaic Idealize.ShloMosaic.TcCoe Idealize.SL.Sem
open Idealize.ShloMosaic.Pipeline (Dat)

variable {F : FTy → Type} [FloatOps F]

theorem no_offset : (![0, 0] : Fin 2 → Nat) = fun _ => 0 := funext fun a => by fin_cases a <;> rfl

/-- The perplexity that the 32 rows of a layer's histograms give. -/
abbrev spread (h : Vec F S32x1024 .f32) : F .f32 := k0_pay5 h

/-- The 32 rows of layer `l` among the 128. -/
def layerRows (h : Vec F S128x1024 .f32) (l : Fin 4) : Vec F S32x1024 .f32 := fun x =>
  h (ix2 (n0 := 128) (n1 := 1024) ⟨32 * l.val + (x 0).val, by have hl := l.isLt; have hx : (x 0).val < 32 := (x 0).isLt; omega⟩ ⟨(x 1).val, (x 1).isLt⟩)

/-- The perplexities of the four layers, from all 128 rows. -/
def spreads (h : Vec F S128x1024 .f32) : Vec F S1x4 .f32 := fun j => spread (layerRows h ⟨(j 1).val, (j 1).isLt⟩)

/-- A one-element array has one index. -/
theorem only_cell (j j' : S1x1.Idx) : j = j' := by
  funext a
  match a with
  | ⟨0, _⟩ => exact Fin.ext (by have := (j 0).isLt; have := (j' 0).isLt; change (j 0).val < 1 at *; change (j' 0).val < 1 at *; show (j 0).val = (j' 0).val; omega)
  | ⟨1, _⟩ => exact Fin.ext (by have := (j 1).isLt; have := (j' 1).isLt; change (j 1).val < 1 at *; change (j' 1).val < 1 at *; show (j 1).val = (j' 1).val; omega)

/-- The load of 32 rows from row `32 * l` on is layer `l`'s rows. -/
theorem ld_layer (h : Vec F S128x1024 .f32) (l : Fin 4) (o : ℕ) (ho : o = 32 * l.val) (inb : ∀ a, (![o, 0] : Fin 2 → ℕ) a + (![32, 1024] : Fin 2 → ℕ) a ≤ S128x1024.size a) :
    (View.ld h (Rect.unit ![o, 0] ![32, 1024] inb) : Vec F S32x1024 .f32) = layerRows h l := by
  subst ho
  funext x
  refine congrArg h (funext fun a => ?_)
  match a with
  | ⟨0, _⟩ => exact Fin.ext (congrArg (32 * l.val + ·) (Nat.one_mul _))
  | ⟨1, _⟩ => exact Fin.ext ((congrArg (0 + ·) (Nat.one_mul _)).trans (Nat.zero_add _))

/-- The cell stored at column `l` is layer `l`'s. -/
theorem spreads_cell (h : Vec F S128x1024 .f32) (l : Fin 4) (o : ℕ) (ho : o = l.val) (inb : ∀ a, (![0, o] : Fin 2 → ℕ) a + (![1, 1] : Fin 2 → ℕ) a ≤ S1x4.size a)
    (x : (Rect.unit (s := S1x4) ![0, o] ![1, 1] inb).shape.Idx) :
    spread (layerRows h l) = spreads h ((Rect.unit (s := S1x4) ![0, o] ![1, 1] inb).emb x) := by
  subst ho
  unfold spreads
  refine congrArg spread (congrArg (layerRows h) (Fin.ext ?_))
  show l.val = l.val + 1 * (x 1).val
  have hx : (x 1).val < 1 := (x 1).isLt
  omega

/-- The loss, from the sum over all points and the sums of the layers before. -/
def lossOf (a : F .f32) (s : Vec F S1x3 .f32) : F .f32 :=
  k0_pay4 a (s (ix2 (n0 := 1) (n1 := 3) 0 0)) (s (ix2 (n0 := 1) (n1 := 3) 0 1)) (s (ix2 (n0 := 1) (n1 := 3) 0 2))

section Body

variable (c : Dev nD) (i : grid0.Coords)
  (a1 : Memref sig .tc .vmem S2048x128 .f32) (h1 : a1.IsWhole) (a2 : Memref sig .tc .vmem S2048x128 .f32) (h2 : a2.IsWhole)
  (a3 : Memref sig .tc .vmem S2048x128 .f32) (h3 : a3.IsWhole) (a4 : Memref sig .tc .vmem S128x1024 .f32) (h4 : a4.IsWhole)
  (a5 : Memref sig .tc .smem S1x3 .f32) (h5 : a5.IsWhole) (a6 : Memref sig .tc .vmem S2048x128 .f32) (h6 : a6.IsWhole)
  (a7 : Memref sig .tc .smem S1x1 .f32) (h7 : a7.IsWhole) (a8 : Memref sig .tc .smem S1x4 .f32) (h8 : a8.IsWhole)
  (z r g : Vec F S2048x128 .f32) (h : Vec F S128x1024 .f32) (s : Vec F S1x3 .f32) (a : Vec F S1x1 .f32)

/-- The first point writes the block of the quantized sum, `z - (r - g)`. -/
theorem rows_first (hf : cond0_0 i) (hl : ¬cond0_1 i) :
    out0_A_5 c i a1 h1 a2 h2 a3 h3 a4 h4 a5 h5 a6 h6 a7 h7 a8 h8 hf hl z r g h s = k0_pay2 r g z := by
  unfold out0_A_5
  rw [View.read_writes_eq_canon _ _ _ (cover0_A_5 c i a1 h1 a2 h2 a3 h3 a4 h4 a5 h5 a6 h6 a7 h7 a8 h8 hf hl z r g h s)]
  unfold kernelRun0_A
  dsimp only
  sl_unfold_words
  rw [View.canon_unit_zero no_offset]
  simp only [View.readAt_eq_ld, h1.read_unread, h2.read_unread, h3.read_unread, View.ld_unit_zero (S := S2048x128) no_offset]

/-- So does a point between. -/
theorem rows_between (hf : ¬cond0_0 i) (hl : ¬cond0_1 i) :
    out0_B_5 c i a1 h1 a2 h2 a3 h3 a4 h4 a5 h5 a6 h6 a7 h7 a8 h8 hf hl z r g h s a = k0_pay2 r g z := by
  unfold out0_B_5
  rw [View.read_writes_eq_canon _ _ _ (cover0_B_5 c i a1 h1 a2 h2 a3 h3 a4 h4 a5 h5 a6 h6 a7 h7 a8 h8 hf hl z r g h s a)]
  unfold kernelRun0_B
  dsimp only
  sl_unfold_words
  rw [View.canon_unit_zero no_offset]
  simp only [View.readAt_eq_ld, h1.read_unread, h2.read_unread, h3.read_unread, View.ld_unit_zero (S := S2048x128) no_offset]

/-- And the last. -/
theorem rows_last (hf : ¬cond0_0 i) (hl : cond0_1 i) :
    out0_C_5 c i a1 h1 a2 h2 a3 h3 a4 h4 a5 h5 a6 h6 a7 h7 a8 h8 hf hl z r g h s a = k0_pay2 r g z := by
  unfold out0_C_5
  rw [View.read_writes_eq_canon _ _ _ (cover0_C_5 c i a1 h1 a2 h2 a3 h3 a4 h4 a5 h5 a6 h6 a7 h7 a8 h8 hf hl z r g h s a)]
  unfold kernelRun0_C
  dsimp only
  sl_unfold_words
  rw [View.canon_unit_zero no_offset]
  simp only [View.readAt_eq_ld, h1.read_unread, h2.read_unread, h3.read_unread, View.ld_unit_zero (S := S2048x128) no_offset]

/-- The first point leaves its own sum of squares in the loss. -/
theorem loss_first (hf : cond0_0 i) (hl : ¬cond0_1 i) :
    out0_A_6 c i a1 h1 a2 h2 a3 h3 a4 h4 a5 h5 a6 h6 a7 h7 a8 h8 hf hl z r g h s = fun _ => k0_pay3 r g (FloatOps.ofBits .f32 0#32) := by
  unfold out0_A_6
  rw [View.read_writes_eq_canon _ _ _ (cover0_A_6 c i a1 h1 a2 h2 a3 h3 a4 h4 a5 h5 a6 h6 a7 h7 a8 h8 hf hl z r g h s)]
  unfold kernelRun0_A
  dsimp only
  sl_unfold_words
  rw [View.canon_cons_unit_zero (S := S1x1) no_offset]
  simp only [View.readAt_eq_ld, h2.read_unread, h3.read_unread, View.ld_unit_zero (S := S2048x128) no_offset]
  rfl

/-- A point between adds its own. -/
theorem loss_between (hf : ¬cond0_0 i) (hl : ¬cond0_1 i) :
    out0_B_6 c i a1 h1 a2 h2 a3 h3 a4 h4 a5 h5 a6 h6 a7 h7 a8 h8 hf hl z r g h s a = fun j => k0_pay3 r g (a j) := by
  unfold out0_B_6
  rw [View.read_writes_eq_canon _ _ _ (cover0_B_6 c i a1 h1 a2 h2 a3 h3 a4 h4 a5 h5 a6 h6 a7 h7 a8 h8 hf hl z r g h s a)]
  unfold kernelRun0_B
  dsimp only
  sl_unfold_words
  rw [View.canon_unit_zero (S := S1x1) no_offset]
  simp only [View.readAt_eq_ld, h2.read_unread, h3.read_unread, h7.read_unread, View.ld_unit_zero (S := S2048x128) no_offset, View.ld_unit_zero (S := S1x1) no_offset]
  funext j
  exact congrArg _ (congrArg a (only_cell _ _))

/-- The last point adds its own, and turns the sum into the loss. -/
theorem loss_last (hf : ¬cond0_0 i) (hl : cond0_1 i) :
    out0_C_6 c i a1 h1 a2 h2 a3 h3 a4 h4 a5 h5 a6 h6 a7 h7 a8 h8 hf hl z r g h s a = fun j => lossOf (k0_pay3 r g (a j)) s := by
  unfold out0_C_6
  rw [View.read_writes_eq_canon _ _ _ (cover0_C_6 c i a1 h1 a2 h2 a3 h3 a4 h4 a5 h5 a6 h6 a7 h7 a8 h8 hf hl z r g h s a)]
  unfold kernelRun0_C
  dsimp only
  sl_unfold_words
  rw [View.canon_cons_unit_zero (S := S1x1) no_offset]
  simp only [View.readAt_eq_ld, h2.read_unread, h3.read_unread, h5.read_unread, h7.read_unread, View.ld_unit_zero (S := S2048x128) no_offset, View.ld_unit_zero (S := S1x1) no_offset]
  funext j
  unfold lossOf
  congr 1
  · exact congrArg _ (congrArg a (only_cell _ _))
  all_goals exact congrArg s (funext fun k => by match k with | ⟨0, _⟩ => rfl | ⟨1, _⟩ => rfl)

/-- The last point writes the perplexities. -/
theorem spreads_last (hf : ¬cond0_0 i) (hl : cond0_1 i) :
    out0_C_7 c i a1 h1 a2 h2 a3 h3 a4 h4 a5 h5 a6 h6 a7 h7 a8 h8 hf hl z r g h s a = spreads h := by
  unfold out0_C_7
  rw [View.read_writes_eq_canon _ _ _ (cover0_C_7 c i a1 h1 a2 h2 a3 h3 a4 h4 a5 h5 a6 h6 a7 h7 a8 h8 hf hl z r g h s a)]
  funext y
  refine View.canon_apply_of_pieces (spreads h) _ ?_ y
    (cover0_C_7 c i a1 h1 a2 h2 a3 h3 a4 h4 a5 h5 a6 h6 a7 h7 a8 h8 hf hl z r g h s a y)
  unfold kernelRun0_C
  dsimp only
  sl_unfold_words
  simp only [View.readAt_eq_ld, h4.read_unread]
  simp only [List.forall_mem_cons, List.not_mem_nil, false_implies, implies_true, and_true]
  refine ⟨fun x => ?_, fun x => ?_, fun x => ?_, fun x => ?_⟩
  · exact (congrArg spread (ld_layer h 3 96 rfl _)).trans (spreads_cell h 3 3 rfl _ x)
  · exact (congrArg spread (ld_layer h 2 64 rfl _)).trans (spreads_cell h 2 2 rfl _ x)
  · exact (congrArg spread (ld_layer h 1 32 rfl _)).trans (spreads_cell h 1 1 rfl _ x)
  · exact (congrArg spread (ld_layer h 0 0 rfl _)).trans (spreads_cell h 0 0 rfl _ x)

end Body

end Cert.FinishIdeal.Value

end
-- ==== Proof.FinishValue.lean ====
/- The last call: what its three results hold, from the arguments. The rows are written a block of 2048 per grid
   point, the loss and the perplexities once, at the last point. -/
module

public import proofs.«01_k».proof.Proof.FinishRun
public import Idealize.ShloMosaic.Lib.Pipeline.ValueKit

@[expose] public section

noncomputable section

namespace Cert.FinishIdeal.Value

open Cert.FinishIdeal Cert.FinishIdeal.Gen Idealize.ShloMosaic Idealize.ShloMosaic.TcCoe Idealize.SL.Sem
open Idealize.ShloMosaic.Pipeline (Dat)

local notation "ℓ" => Loc nD τ sig

variable (m : (l : ℓ) → Buf (Elt Ideal) l) (c : Dev nD)

/-- The row of the array that row `j 0` of block `t` is, with `j`'s column. -/
def rowAt (t : Fin cfg0.N) (j : S2048x128.Idx) : S16384x128.Idx :=
  ix2 (n0 := 16384) (n1 := 128) ⟨2048 * t.val + (j 0).val, by
    have h0 : (j 0).val < 2048 := (j 0).isLt
    have h1 := Nat.lt_of_lt_of_eq t.isLt N_0
    omega⟩ ⟨(j 1).val, (j 1).isLt⟩

abbrev argZ : Vec Ideal S16384x128 .f32 := m ((c : Thread nD τ).loc main_arg0)
abbrev argR : Vec Ideal S16384x128 .f32 := m ((c : Thread nD τ).loc main_arg1)
abbrev argG : Vec Ideal S16384x128 .f32 := m ((c : Thread nD τ).loc main_arg2)
abbrev argH : Vec Ideal S128x1024 .f32 := m ((c : Thread nD τ).loc main_arg3)
abbrev argS : Vec Ideal S1x3 .f32 := m ((c : Thread nD τ).loc main_arg4)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)

theorem block_z (t : Fin cfg0.N) : (iblk m c 0 t : Vec Ideal S2048x128 .f32) = fun j => argZ m c (rowAt t j) := by
  funext j
  blk_simp [iblk]
  refine congrArg (argZ m c) ?_
  unfold rowAt
  blk_ext [index_0]

theorem block_r (t : Fin cfg0.N) : (iblk m c 1 t : Vec Ideal S2048x128 .f32) = fun j => argR m c (rowAt t j) := by
  funext j
  blk_simp [iblk]
  refine congrArg (argR m c) ?_
  unfold rowAt
  blk_ext [index_1]

theorem block_g (t : Fin cfg0.N) : (iblk m c 2 t : Vec Ideal S2048x128 .f32) = fun j => argG m c (rowAt t j) := by
  funext j
  blk_simp [iblk]
  refine congrArg (argG m c) ?_
  unfold rowAt
  blk_ext [index_2]

theorem block_h (t : Fin cfg0.N) : (iblk m c 3 t : Vec Ideal S128x1024 .f32) = argH m c := by
  funext j
  blk_simp [iblk]
  refine congrArg (argH m c) ?_
  blk_ext [index_3]

theorem block_s (t : Fin cfg0.N) : (iblk m c 4 t : Vec Ideal S1x3 .f32) = argS m c := by
  funext j
  blk_simp [iblk]
  refine congrArg (argS m c) ?_
  blk_ext [index_4]

/-- Every point leaves its block of the quantized sum. -/
theorem rows_after (t : Fin cfg0.N) : (outsAt0 m c t.val t.isLt).1 = k0_pay2 (F := Ideal) (iblk m c 1 t) (iblk m c 2 t) (iblk m c 0 t) := by
  by_cases h0 : t.val % 8 = 0
  · have h1 : ¬t.val % 8 = 7 := by omega
    rw [outsAt0_A m c t h0 h1]
    dsimp only
    rw [rows_first]
  · by_cases h1 : t.val % 8 = 7
    · rw [outsAt0_C m c t h0 h1]
      dsimp only
      rw [rows_last]
    · rw [outsAt0_B m c t h0 h1]
      dsimp only
      rw [rows_between]

/-- So the first result is the input less the last residual. -/
theorem final_rows : (dats m 0 c).arrAt 5 cfg0.N = (subf (argZ m c) (subf (argR m c) (argG m c)) : FVec Ideal S16384x128 .f32) := by
  refine (dats m 0 c).arrAt_eq_of_covers 5 _ (by decide +kernel) fun t hf y => ?_
  blk_simp
  rw [after0_5, rows_after, block_z, block_r, block_g]
  have he : ((cfg0.win 5).blk t).view.emb y = rowAt t y := by
    unfold rowAt
    blk_ext [index_5]
  rw [he]
  rfl

/-- The sum of squares of one point's block. -/
def part (t : Fin cfg0.N) : EReal := ∑ i : Fin 2048, ∑ j : Fin 128,
  (argR m c (rowAt t (ix2 i j)) - argG m c (rowAt t (ix2 i j))) * (argR m c (rowAt t (ix2 i j)) - argG m c (rowAt t (ix2 i j)))

/-- Adding a block's sum of squares. -/
theorem pay3_eq (r g : Vec Ideal S2048x128 .f32) (a : EReal) :
    k0_pay3 (F := Ideal) r g a = a + ∑ i : Fin 2048, ∑ j : Fin 128, (r (ix2 i j) - g (ix2 i j)) * (r (ix2 i j) - g (ix2 i j)) := by
  pointwise [k0_pay3, k0_pay1]

/-- The same at a number that need not be a point. -/
def partAt (k : ℕ) : EReal := if h : k < cfg0.N then part m c ⟨k, h⟩ else 0

theorem pay3_block (t : Fin cfg0.N) (a : EReal) : k0_pay3 (F := Ideal) (iblk m c 1 t) (iblk m c 2 t) a = a + part m c t := by
  rw [block_r, block_g, pay3_eq]
  rfl

/-- Before the last point the loss holds the sum over the points so far. -/
theorem loss_upto : ∀ (n : ℕ) (h : n < cfg0.N), n < 7 → (outsAt0 m c n h).2.1 = fun _ => ∑ k ∈ Finset.range (n + 1), partAt m c k
  | 0, h, _ => by
    rw [show outsAt0 m c 0 h = _ from outsAt0_A m c ⟨0, h⟩ rfl (by dsimp only; omega)]
    dsimp only
    rw [loss_first]
    funext j
    rw [pay3_block, Finset.sum_range_one]
    unfold partAt
    rw [dif_pos h]
    exact (congrArg (· + _) Ideal.ofBits_zero_f32).trans (zero_add _)
  | n + 1, h, hn => by
    have h0 : ¬(⟨n + 1, h⟩ : Fin cfg0.N).val % 8 = 0 := by dsimp only; omega
    have h1 : ¬(⟨n + 1, h⟩ : Fin cfg0.N).val % 8 = 7 := by dsimp only; omega
    rw [show outsAt0 m c (n + 1) h = _ from outsAt0_B m c ⟨n + 1, h⟩ h0 h1]
    dsimp only
    rw [loss_between]
    funext j
    rw [pay3_block, show outsAt0 m c (n + 1 - 1) _ = outsAt0 m c n (Nat.lt_of_succ_lt h) from rfl, loss_upto n _ (by omega), Finset.sum_range_succ _ (n + 1)]
    exact congrArg (_ + ·) (by unfold partAt; rw [dif_pos h])

theorem last_div : ¬t0_7.val % 8 = 0 ∧ t0_7.val % 8 = 7 := ⟨by decide, by decide⟩

/-- The loss: from the sum over all points. -/
theorem final_loss : (dats m 0 c).arrAt 6 cfg0.N
    = (fun _ => lossOf (F := Ideal) (∑ k ∈ Finset.range 8, partAt m c k) (argS m c) : FVec Ideal S1x1 .f32) := by
  refine (dats m 0 c).arrAt_eq_of_after_last 6 t0_7 (by decide +kernel) _ fun j => ?_
  blk_simp
  rw [after0_6, outsAt0_C m c t0_7 last_div.1 last_div.2]
  dsimp only
  rw [loss_last, block_s]
  dsimp only
  rw [pay3_block, show outsAt0 m c (t0_7.val - 1) _ = outsAt0 m c 6 (by rw [show cfg0.N = 8 from N_0]; decide) from rfl,
    loss_upto m c 6 _ (by decide), Finset.sum_range_succ _ 7]
  exact congrArg (fun x => lossOf (F := Ideal) (_ + x) _) (by unfold partAt; rw [dif_pos (show 7 < cfg0.N by rw [show cfg0.N = 8 from N_0]; decide)]; rfl)

/-- The perplexities, from the histograms. -/
theorem final_spreads : (dats m 0 c).arrAt 7 cfg0.N = (spreads (argH m c) : FVec Ideal S1x4 .f32) := by
  refine (dats m 0 c).arrAt_eq_of_after_last 7 t0_7 (by decide +kernel) _ fun j => ?_
  blk_simp
  rw [after0_7, outsAt0_C m c t0_7 last_div.1 last_div.2]
  dsimp only
  rw [spreads_last, block_h]

/-- The sum over the points is the sum over the whole arrays. -/
theorem sum_parts : ∑ k ∈ Finset.range 8, partAt m c k = ∑ i : Fin 16384, ∑ j : Fin 128,
    (argR m c (ix2 i j) - argG m c (ix2 i j)) * (argR m c (ix2 i j) - argG m c (ix2 i j)) := by
  rw [Finset.sum_range]
  have hp : ∀ k : Fin 8, partAt m c k.val = part m c ⟨k.val, Nat.lt_of_lt_of_eq k.isLt N_0.symm⟩ := fun k => by
    unfold partAt
    rw [dif_pos (Nat.lt_of_lt_of_eq k.isLt N_0.symm)]
  simp only [hp]
  unfold part
  refine Fin.sum_mul_add_congr fun t i hl => ?_
  have hr : ∀ j : Fin 128, rowAt ⟨t.val, Nat.lt_of_lt_of_eq t.isLt N_0.symm⟩ (ix2 (n0 := 2048) (n1 := 128) i j) = ix2 (n0 := 16384) (n1 := 128) ⟨t.val * 2048 + i.val, hl⟩ j := fun j =>
    congrArg (fun k => ix2 (n0 := 16384) (n1 := 128) k j) (Fin.ext (congrArg (· + i.val) (Nat.mul_comm 2048 t.val)))
  simp only [hr]

end Cert.FinishIdeal.Value

end
-- ==== Proof.FinishClaim.lean ====
/- The last call against its reference: the loss and the perplexities are the reference's. -/
module

public import proofs.«01_k».proof.Proof.FinishValue
public import proofs.«01_k».proof.Proof.Gen.FinishReferenceIdeal.Run
public import proofs.«01_k».proof.Proof.Gen.Finish.Frame
public import proofs.«01_k».proof.Defs
public import Idealize.ShloMosaic.PureOps.Ideal.Laws
import Idealize.ShloMosaic.Lib.Quiescent

@[expose] public section

noncomputable section

namespace Cert.FinishIdeal.Value

open Cert.FinishIdeal Cert.FinishIdeal.Gen Idealize.ShloMosaic Idealize.ShloMosaic.TcCoe Idealize.SL.Sem

/-- The loss's weight. -/
theorem weight_eq : Ideal.ofBits .f32 0x3E800000#32 = (((1 : ℝ) / 4 : ℝ) : EReal) := by
  simp [Ideal.ofBits, Ideal.ieee, ← EReal.coe_mul]
  norm_num

/-- The number of entries of the input. -/
theorem entries_eq : Ideal.ofBits .f32 0x4A000000#32 = ((2097152 : ℝ) : EReal) := by
  simp [Ideal.ofBits, Ideal.ieee, ← EReal.coe_mul]
  norm_num

/-- The number of rows to be coded. -/
theorem count_eq : Ideal.ofBits .f32 0x47000000#32 = ((32768 : ℝ) : EReal) := by
  simp [Ideal.ofBits, Ideal.ieee, ← EReal.coe_mul]
  norm_num

/-- Its inverse. -/
theorem count_inv : Ideal.ofBits .f32 0x38000000#32 = (((1 : ℝ) / 32768 : ℝ) : EReal) := by
  simp [Ideal.ofBits, Ideal.ieee, ← EReal.coe_mul]
  norm_num

/-- A finite nonnegative factor distributes over a sum of extended reals. -/
theorem scale_add (r : ℝ) (hr : 0 ≤ r) (a b : EReal) : (a + b) * (r : EReal) = a * (r : EReal) + b * (r : EReal) :=
  EReal.right_distrib_of_nonneg_of_ne_top (EReal.coe_nonneg.mpr hr) (EReal.coe_ne_top r) a b

/-- The reference's loss, from the residual and the sums of squares of the layers before. -/
def refLoss (x : FVec Ideal S16384x128 .f32) (s : FVec Ideal S1x3 .f32) : FVec Ideal Cert.FinishReferenceIdeal.S_ .f32 :=
  addf (mulf (constant _ .f32 0x3E800000#32) (Host.divf (Host.reduceAdd (mulf x x) (constant _ .f32 0x00000000#32) Cert.FinishReferenceIdeal.Gen.reducesTo_S16384x128_S_d0_1 Cert.FinishReferenceIdeal.Gen.h_S_) (constant _ .f32 0x4A000000#32)))
    (Host.reduceAdd (mulf (broadcastInDim S1x3 ![] Cert.FinishReferenceIdeal.Gen.bcast_S_S1x3 (constant Cert.FinishReferenceIdeal.S_ .f32 0x3E800000#32)) (Host.divf s (broadcastInDim S1x3 ![] Cert.FinishReferenceIdeal.Gen.bcast_S_S1x3 (constant Cert.FinishReferenceIdeal.S_ .f32 0x4A000000#32)))) (constant _ .f32 0x00000000#32) Cert.FinishReferenceIdeal.Gen.reducesTo_S1x3_S_d0_1 Cert.FinishReferenceIdeal.Gen.h_S_)

theorem loss_eq (x : FVec Ideal S16384x128 .f32) (s : FVec Ideal S1x3 .f32) (j : Cert.FinishReferenceIdeal.S_.Idx) :
    lossOf (F := Ideal) (∑ i : Fin 16384, ∑ j : Fin 128, x (ix2 i j) * x (ix2 i j)) s = refLoss x s j := by
  pointwise [lossOf, k0_pay4, refLoss]
  rw [weight_eq, entries_eq]
  simp only [Ideal.div_coe (show (2097152 : ℝ) ≠ 0 by norm_num), Fin.sum_univ_one, Fin.sum_univ_three, EReal.mul_comm (((1 : ℝ) / 4 : ℝ) : EReal)]
  simp only [scale_add (1 / 4) (by norm_num), scale_add (1 / 2097152) (by norm_num), mul_right_comm _ (((1 : ℝ) / 4 : ℝ) : EReal), add_assoc]

/-- The reference's perplexities, from the histograms. -/
def refSpread (h : FVec Ideal S128x1024 .f32) : FVec Ideal S1x4 .f32 :=
  let p := Host.divf (Host.reduceAdd (shapeCast _ h Cert.FinishReferenceIdeal.Gen.shapeCasts_S128x1024_S4x32x1024) (constant _ .f32 0x00000000#32) Cert.FinishReferenceIdeal.Gen.reducesTo_S4x32x1024_S4x1024_d1 Cert.FinishReferenceIdeal.Gen.h_S_) (broadcastInDim Cert.FinishReferenceIdeal.S4x1024 ![] Cert.FinishReferenceIdeal.Gen.bcast_S_S4x1024 (constant Cert.FinishReferenceIdeal.S_ .f32 0x47000000#32))
  shapeCast S1x4 (Host.exp (Host.negf (Host.reduceAdd (mulf p (Host.log (addf p (broadcastInDim Cert.FinishReferenceIdeal.S4x1024 ![] Cert.FinishReferenceIdeal.Gen.bcast_S_S4x1024 (constant Cert.FinishReferenceIdeal.S_ .f32 0x2EDBE6FF#32))))) (constant _ .f32 0x00000000#32) Cert.FinishReferenceIdeal.Gen.reducesTo_S4x1024_S4_d1 Cert.FinishReferenceIdeal.Gen.h_S_))) Cert.FinishReferenceIdeal.Gen.shapeCasts_S4_S1x4

theorem spread_eq (h : Vec Ideal S128x1024 .f32) : spreads (F := Ideal) h = refSpread h := by
  funext j
  idx_vars j
  pointwise [spreads, k0_pay5, layerRows, refSpread]
  rw [count_eq, count_inv]
  simp only [Ideal.div_coe (show (32768 : ℝ) ≠ 0 by norm_num), zero_sub, Nat.mul_comm 32]
  rfl

end Cert.FinishIdeal.Value

namespace Cert.Proof

open Idealize.ShloMosaic Idealize.SL.Sem

/-- The last call runs at the machine's floats, its arguments and all counters end as they began. -/
theorem finish_frame : quiescent_Finish := fun m ρ _ => Finish.Gen.frame m ρ

/-- And over the extended reals. -/
theorem finish_frame_exact : quiescent_FinishIdeal := fun m ρ _ => FinishIdeal.Gen.frame m ρ

/-- Its reference runs, its arguments end as they began, and it has no counters. -/
theorem finish_frame_reference : quiescent_FinishReferenceIdeal := fun m ρ _ =>
  (θ_run FinishReferenceIdeal.defs _ _).mono (fun r e => ⟨fun c => (e c).2.2.2, sem_eq_zero_of_no_sems (by decide) r.2⟩)
    (FinishReferenceIdeal.Value.run (F := Ideal) m ρ)

/-- The last call and its reference give the same rows, loss and perplexities over the extended reals. -/
theorem finish_results : algebraic_FinishIdeal_FinishReferenceIdeal := fun m ρ m' ρ' _ hargs => by
  refine ⟨_, _, _, FinishIdeal.Value.run_blocks (F := Ideal) m ρ, ?_⟩
  refine (θ_run FinishReferenceIdeal.defs _ _).mono
    (fun _ e c => ⟨(e c).1.trans ?_, (e c).2.1.trans ?_, (e c).2.2.1.trans ?_, (e c).2.2.2⟩) (FinishReferenceIdeal.Value.run (F := Ideal) m' ρ')
  · rw [(hargs c).1, (hargs c).2.1, (hargs c).2.2.1]
    exact (FinishIdeal.Value.final_rows m c).symm
  · rw [(hargs c).2.1, (hargs c).2.2.1, (hargs c).2.2.2.2]
    refine Eq.trans ?_ (FinishIdeal.Value.final_loss m c).symm
    rw [FinishIdeal.Value.sum_parts]
    funext j
    exact (FinishIdeal.Value.loss_eq (subf (FinishIdeal.Value.argR m c) (FinishIdeal.Value.argG m c)) (FinishIdeal.Value.argS m c) _).symm
  · rw [(hargs c).2.2.2.1]
    exact ((FinishIdeal.Value.final_spreads m c).trans (FinishIdeal.Value.spread_eq _)).symm

end Cert.Proof

end
-- ==== Proof.lean ====
/- The claims about the SparseCore call: that the kernel runs and leaves its arguments and all counters as they were
   (at the machine's floats and over the extended reals), that the reference does, and that over the extended reals
   the two give the same gathered rows and the same counts. The kernel's run is `run_main` of Proof/Main.lean and, over
   the extended reals, of Proof/IdealMain.lean; the reference's values are in Proof/Reference.lean. The claims about the
   three TensorCore calls are in Proof/NearestClaim.lean, Proof/NextClaim.lean and Proof/FinishClaim.lean. -/
module

public import proofs.«01_k».proof.Proof.Gen.Finish
public import proofs.«01_k».proof.Proof.Gen.Finish.Frame
public import proofs.«01_k».proof.Proof.Gen.FinishIdeal
public import proofs.«01_k».proof.Proof.Gen.FinishIdeal.Frame
public import proofs.«01_k».proof.Proof.Gen.FinishIdeal.Value
public import proofs.«01_k».proof.Proof.Gen.FinishReferenceIdeal
public import proofs.«01_k».proof.Proof.Gen.FinishReferenceIdeal.Run
public import proofs.«01_k».proof.Proof.Gen.Nearest
public import proofs.«01_k».proof.Proof.Gen.Nearest.Frame
public import proofs.«01_k».proof.Proof.Gen.NearestIdeal
public import proofs.«01_k».proof.Proof.Gen.NearestIdeal.Frame
public import proofs.«01_k».proof.Proof.Gen.NearestIdeal.Value
public import proofs.«01_k».proof.Proof.Gen.NearestReferenceIdeal
public import proofs.«01_k».proof.Proof.Gen.Next
public import proofs.«01_k».proof.Proof.Gen.Next.Frame
public import proofs.«01_k».proof.Proof.Gen.NextIdeal
public import proofs.«01_k».proof.Proof.Gen.NextIdeal.Frame
public import proofs.«01_k».proof.Proof.Gen.NextIdeal.Value
public import proofs.«01_k».proof.Proof.Gen.NextReferenceIdeal
public import proofs.«01_k».proof.Proof.Gen.Pre_finite_inputs
public import proofs.«01_k».proof.Proof.Gen.Pre_finite_rows
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_idx_in_range
public import proofs.«01_k».proof.Proof.Main
public import proofs.«01_k».proof.Proof.IdealMain
public import proofs.«01_k».proof.Proof.Reference
public import proofs.«01_k».proof.Proof.Agree
public import proofs.«01_k».proof.Proof.NearestClaim
public import proofs.«01_k».proof.Proof.NextClaim
public import proofs.«01_k».proof.Proof.FinishClaim
public import Idealize.ShloMosaic.Adequacy
public import Idealize.ShloMosaic.Init
import Idealize.ShloMosaic.Lib.Quiescent

@[expose] public section

noncomputable section

namespace Cert.Proof

open Idealize.ShloMosaic Idealize.SL.Sem

/-- The precondition puts every index of the kernel's launch memory in range. -/
theorem in_range (m : (ℓ : Loc Kernel.nD Kernel.τ Kernel.sig) → Buf (Elt Bits) ℓ) (h : Pre_Kernel m) : Kernel.Tile.PreOK m :=
  fun d x => Range.in_range _ _ (h d) x

/-- The precondition puts every index in range over the extended reals too. -/
theorem in_range_exact (m : (ℓ : Loc KernelIdeal.nD KernelIdeal.τ KernelIdeal.sig) → Buf (Elt Ideal) ℓ) (h : Pre_KernelIdeal m) :
    KernelIdeal.Tile.PreOK m :=
  fun d x => Range.in_range _ _ (h d) x

/-- The kernel runs at the machine's floats, its arguments and all counters end as they began. -/
theorem frame_kernel : quiescent_Kernel := fun m ρ h =>
  (θ_run Kernel.defs _ _).mono (fun _ e => ⟨fun c => ⟨(e.1 c).1, (e.1 c).2.1⟩, e.2⟩) (Kernel.Tile.run_main (F := Bits) m ρ (in_range m h))

/-- The kernel runs over the extended reals, its arguments and all counters end as they began. -/
theorem frame_exact : quiescent_KernelIdeal := fun m ρ h =>
  (θ_run KernelIdeal.defs _ _).mono (fun _ e => ⟨fun c => ⟨(e.1 c).1, (e.1 c).2.1⟩, e.2⟩)
    (KernelIdeal.Tile.run_main (F := Ideal) m ρ (in_range_exact m h))

/-- The reference runs, its arguments end as they began, and it has no counters. -/
theorem frame_reference : quiescent_ReferenceIdeal := fun m ρ _ =>
  (θ_run ReferenceIdeal.defs _ _).mono (fun r e => ⟨fun c => (e c).2.2, sem_eq_zero_of_no_sems (by decide) r.2⟩)
    (ReferenceIdeal.Value.run (F := Ideal) m ρ)

/-- The kernel and the reference give the same rows and the same counts over the extended reals. -/
theorem same_results : algebraic_KernelIdeal_ReferenceIdeal := fun m ρ m' ρ' h hargs => by
  have hr := in_range_exact m h
  refine ⟨fun c => KernelIdeal.Tile.result m c, fun c => Values.outCounts (F := Ideal) (KernelIdeal.Tile.codes m c), ?_, ?_⟩
  · exact (θ_run KernelIdeal.defs _ _).mono
      (fun _ e c => ⟨(e.1 c).2.2.1, (e.1 c).2.2.2, (e.1 c).1, (e.1 c).2.1⟩) (KernelIdeal.Tile.run_main (F := Ideal) m ρ hr)
  · refine (θ_run ReferenceIdeal.defs _ _).mono (fun _ e c => ⟨(e c).1.trans ?_, (e c).2.1.trans ?_, (e c).2.2⟩)
      (ReferenceIdeal.Value.run (F := Ideal) m' ρ')
    · rw [(hargs c).1, (hargs c).2]
      exact (KernelIdeal.Tile.result_eq m hr c).symm
    · rw [(hargs c).2]
      exact ReferenceIdeal.Value.counted_eq _

/-- All the claims. -/
theorem claim : Cert.Claim := ⟨Cert.Kernel.Gen.facts, Cert.KernelIdeal.Gen.facts, Cert.ReferenceIdeal.Gen.facts,
  Cert.Nearest.Gen.facts, Cert.NearestIdeal.Gen.facts, Cert.NearestReferenceIdeal.Gen.facts,
  Cert.Next.Gen.facts, Cert.NextIdeal.Gen.facts, Cert.NextReferenceIdeal.Gen.facts,
  Cert.Finish.Gen.facts, Cert.FinishIdeal.Gen.facts, Cert.FinishReferenceIdeal.Gen.facts,
  Cert.Pre_idx_in_range.Gen.facts, Cert.Pre_finite_inputs.Gen.facts, Cert.Pre_finite_rows.Gen.facts,
  frame_kernel, frame_exact, frame_reference, fun m ρ _ => frame_reference m ρ trivial,
  nearest_frame, nearest_frame_exact, fun m ρ _ => nearest_frame_exact m ρ trivial, nearest_frame_reference, fun m ρ _ => nearest_frame_reference m ρ trivial,
  next_frame, next_frame_exact, fun m ρ _ => next_frame_exact m ρ trivial, next_frame_reference, fun m ρ _ => next_frame_reference m ρ trivial,
  finish_frame, finish_frame_exact, finish_frame_reference,
  trivial, same_results, trivial, nearest_results, trivial, next_results, trivial, finish_results⟩

end Cert.Proof

end
